-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_one [hPre_zero_one : Cert.Pre_zero_one.Facts] (m : (ℓ : Loc Cert.KernelIdeal.nD Cert.KernelIdeal.τ Cert.KernelIdeal.sig) → Buf (Elt Ideal) ℓ) : Prop :=
  ∀ c : Dev Cert.KernelIdeal.nD,
    (Cert.Pre_zero_one.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_one [hPre_zero_one : Cert.Pre_zero_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_one.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_zero_one [hKernelIdeal : Cert.KernelIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_zero_one [hReferenceIdeal : Cert.ReferenceIdeal.Facts] [hPre_zero_one : Cert.Pre_zero_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_zero_one [hKernelIdeal : Cert.KernelIdeal.Facts] [hReferenceIdeal : Cert.ReferenceIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_c)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_c) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_c) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_zero_one : Cert.Pre_zero_one.Facts),
    quiescent_Kernel (hKernel := hKernel)
    ∧ quiescent_KernelIdeal (hKernelIdeal := hKernelIdeal)
    ∧ quiescent_KernelIdeal_pre_zero_one (hKernelIdeal := hKernelIdeal) (hPre_zero_one := hPre_zero_one)
    ∧ quiescent_ReferenceIdeal (hReferenceIdeal := hReferenceIdeal)
    ∧ quiescent_ReferenceIdeal_pre_zero_one (hReferenceIdeal := hReferenceIdeal) (hPre_zero_one := hPre_zero_one)
    ∧ preserves_Kernel_KernelIdeal
    ∧ algebraic_KernelIdeal_ReferenceIdeal_pre_zero_one (hKernelIdeal := hKernelIdeal) (hReferenceIdeal := hReferenceIdeal) (hPre_zero_one := hPre_zero_one)
-- ==== Pre_zero_one.lean ====
abbrev S5x2048x2048 : Shape := ⟨3, ![5, 2048, 2048]⟩
abbrev S3x2046x2046 : Shape := ⟨3, ![3, 2046, 2046]⟩
abbrev S_ : Shape := ⟨0, ![]⟩

class Facts : Prop where
  slices_S5x2048x2048_S3x2046x2046_2_1_1 : S5x2048x2048.Slices ![2, 1, 1] S3x2046x2046
  bcast_S_S3x2046x2046 : S_.BroadcastsInDim S3x2046x2046 (![] : Fin 0 → Fin S3x2046x2046.rank)
  reducesTo_S3x2046x2046_S_d0_1_2 : S3x2046x2046.ReducesTo [0, 1, 2] S_
  h_S_ : 0 < S_.numel

variable [Facts]

def fn {F : FTy → Type} [FloatOps F] (main_arg0 : FVec F S5x2048x2048 .f32) : IVec S_ 1 :=
  let main_v0 : FVec F S3x2046x2046 .f32 := (extractStridedSlice S3x2046x2046 ![2, 1, 1] · slices_S5x2048x2048_S3x2046x2046_2_1_1) main_arg0
  let main_cst : FVec F S_ .f32 := constant S_ .f32 0x00000000#32
  let main_v1 : FVec F S3x2046x2046 .f32 := broadcastInDim S3x2046x2046 ![] bcast_S_S3x2046x2046 main_cst
  let main_v2 : IVec S3x2046x2046 1 := cmpf .oeq main_v0 main_v1
  let main_cst_0 : FVec F S_ .f32 := constant S_ .f32 0x3F800000#32
  let main_v3 : FVec F S3x2046x2046 .f32 := broadcastInDim S3x2046x2046 ![] bcast_S_S3x2046x2046 main_cst_0
  let main_v4 : IVec S3x2046x2046 1 := cmpf .oeq main_v0 main_v3
  let main_v5 : IVec S3x2046x2046 1 := ori main_v2 main_v4
  let main_c : IVec S_ 1 := constantI S_ 1 1#1
  let main_v6 : IVec S_ 1 := (fun x v => Host.reduce IntOp.andi x v reducesTo_S3x2046x2046_S_d0_1_2 h_S_) main_v5 main_c
  main_v6
-- ==== Kernel.lean ====
abbrev S5x2048x2048 : Shape := ⟨3, ![5, 2048, 2048]⟩
abbrev S1 : Shape := ⟨1, ![1]⟩
abbrev S2048x2x8x128 : Shape := ⟨4, ![2048, 2, 8, 128]⟩
abbrev S1x512x2048 : Shape := ⟨3, ![1, 512, 2048]⟩
abbrev S1x8x2048 : Shape := ⟨3, ![1, 8, 2048]⟩
abbrev S2048x1x8x128 : Shape := ⟨4, ![2048, 1, 8, 128]⟩
abbrev S1x2048 : Shape := ⟨2, ![1, 2048]⟩
abbrev S512x2048 : Shape := ⟨2, ![512, 2048]⟩
abbrev S512x1 : Shape := ⟨2, ![512, 1]⟩
abbrev S1x1x2048 : Shape := ⟨3, ![1, 1, 2048]⟩
abbrev S512x2047 : Shape := ⟨2, ![512, 2047]⟩
abbrev S511x2048 : Shape := ⟨2, ![511, 2048]⟩
abbrev S128x128 : Shape := ⟨2, ![128, 128]⟩
abbrev S128x2048 : Shape := ⟨2, ![128, 2048]⟩
abbrev S2048x128 : Shape := ⟨2, ![2048, 128]⟩
abbrev S2048x512 : Shape := ⟨2, ![2048, 512]⟩
abbrev S2048x4x128 : Shape := ⟨3, ![2048, 4, 128]⟩
abbrev S2048x1x4x128 : Shape := ⟨4, ![2048, 1, 4, 128]⟩
abbrev S4194304 : Shape := ⟨1, ![4194304]⟩

abbrev nBuf : Space → Nat
  | .hbm => 4
  | .vmem => 15
  | .smem => 0
  | _ => 0

abbrev bufTy : (tb : Table) → Fin (tcTables nBuf tb) → BufTy
  | .hbm, ⟨0, _⟩ => ⟨S5x2048x2048, .f32⟩
  | .hbm, ⟨1, _⟩ => ⟨S1, .i32⟩
  | .hbm, ⟨2, _⟩ => ⟨S2048x2x8x128, .f32⟩
  | .hbm, ⟨3, _⟩ => ⟨S4194304, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S2048x1x8x128, .f32⟩
  | .local _ .vmem, ⟨13, _⟩ => ⟨S2048x1x8x128, .f32⟩
  | .local _ .vmem, ⟨14, _⟩ => ⟨S1x2048, .bf16⟩
  | _, _ => ⟨S5x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let c0_i32_41 : BitVec 32 := 0#32
  let v99 : BitVec 1 := Scalar.cmpi .eq c2_i32 c0_i32_41
  let c1_i32_42 : BitVec 32 := 1#32
  let v100 : BitVec 32 := Scalar.select v99 c1_i32_42 c2_i32
  let v101 : BitVec 32 := Scalar.remsi arg0 v100
  let c0_i32_44 : BitVec 32 := 0#32
  let v103 : BitVec 1 := Scalar.cmpi .slt v101 c0_i32_44
  let c0_i32_45 : BitVec 32 := 0#32
  let v104 : BitVec 1 := Scalar.cmpi .slt v100 c0_i32_45
  let v105 : BitVec 1 := Scalar.xori v103 v104
  let c0_i32_43 : BitVec 32 := 0#32
  let v102 : BitVec 1 := Scalar.cmpi .ne v101 c0_i32_43
  let v106 : BitVec 1 := Scalar.andi v105 v102
  let v107 : BitVec 32 := Scalar.addi v101 v100
  let v108 : BitVec 32 := Scalar.select v106 v107 v101
  let c0_i32_46 : BitVec 32 := 0#32
  let v109 : BitVec 1 := Scalar.cmpi .eq v108 c0_i32_46
  let v110 : BitVec 32 := Scalar.extui v109
  let c0_i32_47 : BitVec 32 := 0#32
  let v111 : BitVec 1 := Scalar.cmpi .ne v110 c0_i32_47
  v111

def k0_cond2 (i : grid0.Coords) : BitVec 1 :=
  let arg0 : BitVec 32 := BitVec.ofNat 32 (i 0).val
  let c2_i32_48 : BitVec 32 := 2#32
  let c0_i32_49 : BitVec 32 := 0#32
  let v112 : BitVec 1 := Scalar.cmpi .eq c2_i32_48 c0_i32_49
  let c1_i32_50 : BitVec 32 := 1#32
  let v113 : BitVec 32 := Scalar.select v112 c1_i32_50 c2_i32_48
  let v114 : BitVec 32 := Scalar.remsi arg0 v113
  let c0_i32_52 : BitVec 32 := 0#32
  let v116 : BitVec 1 := Scalar.cmpi .slt v114 c0_i32_52
  let c0_i32_53 : BitVec 32 := 0#32
  let v117 : BitVec 1 := Scalar.cmpi .slt v113 c0_i32_53
  let v118 : BitVec 1 := Scalar.xori v116 v117
  let c0_i32_51 : BitVec 32 := 0#32
  let v115 : BitVec 1 := Scalar.cmpi .ne v114 c0_i32_51
  let v119 : BitVec 1 := Scalar.andi v118 v115
  let v120 : BitVec 32 := Scalar.addi v114 v113
  let v121 : BitVec 32 := Scalar.select v119 v120 v114
  let c1_i32_54 : BitVec 32 := 1#32
  let v122 : BitVec 1 := Scalar.cmpi .eq v121 c1_i32_54
  let v123 : BitVec 32 := Scalar.extui v122
  let c0_i32_55 : BitVec 32 := 0#32
  let v124 : BitVec 1 := Scalar.cmpi .ne v123 c0_i32_55
  v124

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c64_i32 : BitVec 32 := 64#32
  let v2 : BitVec 32 := Scalar.muli c64_i32 v1
  let c2_i32 : BitVec 32 := 2#32
  let c0_i32 : BitVec 32 := 0#32
  let c0_i32_0 : BitVec 32 := 0#32
  ![c2_i32.toNat, v2.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c64_i32 : BitVec 32 := 64#32
  let v2 : BitVec 32 := Scalar.muli c64_i32 v1
  let c3_i32_0 : BitVec 32 := 3#32
  let c0_i32 : BitVec 32 := 0#32
  let c0_i32_1 : BitVec 32 := 0#32
  ![c3_i32_0.toNat, v2.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c64_i32 : BitVec 32 := 64#32
  let v2 : BitVec 32 := Scalar.muli c64_i32 v1
  let c4_i32 : BitVec 32 := 4#32
  let c0_i32 : BitVec 32 := 0#32
  let c0_i32_0 : BitVec 32 := 0#32
  ![c4_i32.toNat, v2.toNat, c0_i32.toNat]

def cc0_transform_6 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S5x2048x2048 : Shape := ⟨3, ![5, 2048, 2048]⟩
abbrev S1 : Shape := ⟨1, ![1]⟩
abbrev S1x2048x2048 : Shape := ⟨3, ![1, 2048, 2048]⟩
abbrev S2048x2048 : Shape := ⟨2, ![2048, 2048]⟩
abbrev S_ : Shape := ⟨0, ![]⟩
abbrev S2 : Shape := ⟨1, ![2]⟩
abbrev S2046x2046 : Shape := ⟨2, ![2046, 2046]⟩
abbrev S1x2048 : Shape := ⟨2, ![1, 2048]⟩
abbrev S2048x1 : Shape := ⟨2, ![2048, 1]⟩
abbrev S2047x2048 : Shape := ⟨2, ![2047, 2048]⟩
abbrev S2048x2047 : Shape := ⟨2, ![2048, 2047]⟩
abbrev S4194304 : Shape := ⟨1, ![4194304]⟩

abbrev nBuf : Space → Nat
  | .hbm => 77
  | .vmem => 0
  | .smem => 0
  | _ => 0

abbrev bufTy : (tb : Table) → Fin (tcTables nBuf tb) → BufTy
  | .hbm, ⟨0, _⟩ => ⟨S5x2048x2048, .f32⟩
  | .hbm, ⟨1, _⟩ => ⟨S1, .i32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .i1⟩
  | .hbm, ⟨14, _⟩ => ⟨S_, .f32⟩
  | .hbm, ⟨15, _⟩ => ⟨S2048x2048, .f32⟩
  | .hbm, ⟨16, _⟩ => ⟨S2048x2048, .i1⟩
  | .hbm, ⟨17, _⟩ => ⟨S_, .f32⟩
  | .hbm, ⟨18, _⟩ => ⟨S2048x2048, .f32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .i1⟩
  | .hbm, ⟨33, _⟩ => ⟨S2048x2048, .i1⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S_, .i1⟩
  | .hbm, ⟨40, _⟩ => ⟨S2046x2046, .i1⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S1x2048, .f32⟩
  | .hbm, ⟨48, _⟩ => ⟨S_, .f32⟩
  | .hbm, ⟨49, _⟩ => ⟨S2048x1, .f32⟩
  | .hbm, ⟨50, _⟩ => ⟨S2047x2048, .f32⟩
  | .hbm, ⟨51, _⟩ => ⟨S2048x2048, .f32⟩
  | .hbm, ⟨52, _⟩ => ⟨S2048x2047, .f32⟩
  | .hbm, ⟨53, _⟩ => ⟨S2048x2048, .f32⟩
  | .hbm, ⟨54, _⟩ => ⟨S2048x2047, .f32⟩
  | .hbm, ⟨55, _⟩ => ⟨S2048x2048, .f32⟩
  | .hbm, ⟨56, _⟩ => ⟨S2047x2048, .f32⟩
  | .hbm, ⟨57, _⟩ => ⟨S2048x2048, .f32⟩
  | .hbm, ⟨58, _⟩ => ⟨S_, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .i1⟩
  | .hbm, ⟨63, _⟩ => ⟨S2048x2048, .f32⟩
  | .hbm, ⟨64, _⟩ => ⟨S_, .f32⟩
  | .hbm, ⟨65, _⟩ => ⟨S2048x2048, .f32⟩
  | .hbm, ⟨66, _⟩ => ⟨S2048x2048, .i1⟩
  | .hbm, ⟨67, _⟩ => ⟨S2048x2048, .f32⟩
  | .hbm, ⟨68, _⟩ => ⟨S_, .f32⟩
  | .hbm, ⟨69, _⟩ => ⟨S2048x2048, .f32⟩
  | .hbm, ⟨70, _⟩ => ⟨S2048x2048, .i1⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .i1⟩
  | .hbm, ⟨75, _⟩ => ⟨S2048x2048, .f32⟩
  | .hbm, ⟨76, _⟩ => ⟨S4194304, .f32⟩
  | _, _ => ⟨S5x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_call1_v0 : Ref sig .tc := ⟨.hbm, 26, rfl⟩
abbrev main_v16 : Ref sig .tc := ⟨.hbm, 27, rfl⟩
abbrev main_cst_5 : Ref sig .tc := ⟨.hbm, 28, rfl⟩
abbrev main_call2_v0 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_c_8 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_v25 : Ref sig .tc := ⟨.hbm, 45, rfl⟩
abbrev main_cst_11 : Ref sig .tc := ⟨.hbm, 46, rfl⟩
abbrev main_v26 : Ref sig .tc := ⟨.hbm, 47, rfl⟩
abbrev main_cst_12 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_16 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_17 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Proof.Setup.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ArrRel
public import Idealize.ShloMosaic.Lib.Tactic
public import Idealize.ShloMosaic.Lib.Pointwise
public import Idealize.ShloMosaic.Lib.WordCmp

/-! # What the body's triple and the launch are stated over

The two branch conditions of the kernel body over the four grid points, the staging buffers of the windows at a
point, the scratch row, and the one buffer the lines after the region write. -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first `if` of the body is taken at the even points: there the block goes to the lower half of the window. -/
abbrev evenPt (i : grid0.Coords) : Prop := k0_cond1 i = 1#1
theorem evenPt_iff : ∀ t : Fin cfg0.N, evenPt (grid0.coords t) ↔ t.val % 2 = 0 :=
  (by decide +kernel : ∀ t : Fin grid0.N, evenPt (grid0.coords t) ↔ t.val % 2 = 0)

/-- The second `if` of the body is taken at the odd points: there the block goes to the upper half of the window. -/
abbrev oddPt (i : grid0.Coords) : Prop := k0_cond2 i = 1#1
theorem oddPt_iff : ∀ t : Fin cfg0.N, oddPt (grid0.coords t) ↔ t.val % 2 = 1 :=
  (by decide +kernel : ∀ t : Fin grid0.N, oddPt (grid0.coords t) ↔ t.val % 2 = 1)

/-! The staging buffer each window uses at point `t`. -/

abbrev stg0 (t : Fin cfg0.N) : Memref sig .tc .vmem S1x512x2048 .f32 := win0_0.stage (cfg0.slots t 0)
abbrev stg1 (t : Fin cfg0.N) : Memref sig .tc .vmem S1x512x2048 .f32 := win0_1.stage (cfg0.slots t 1)
abbrev stg2 (t : Fin cfg0.N) : Memref sig .tc .vmem S1x512x2048 .f32 := win0_2.stage (cfg0.slots t 2)
abbrev stg3 (t : Fin cfg0.N) : Memref sig .tc .vmem S1x8x2048 .f32 := win0_3.stage (cfg0.slots t 3)
abbrev stg4 (t : Fin cfg0.N) : Memref sig .tc .vmem S1x8x2048 .f32 := win0_4.stage (cfg0.slots t 4)
abbrev stg5 (t : Fin cfg0.N) : Memref sig .tc .vmem S1x8x2048 .f32 := win0_5.stage (cfg0.slots t 5)
abbrev stg6 (t : Fin cfg0.N) : Memref sig .tc .vmem S2048x1x8x128 .f32 := win0_6.stage (cfg0.slots t 6)

/-- The kernel's scratch: the row carried from one point to the next. -/
abbrev carry : Memref sig .tc .vmem S1x2048 .bf16 := Memref.whole cc0_scratch0

/-- What the region leaves the body besides the windows: the scratch row at some contents, and the generator. -/
theorem ΦA_eq (c : Dev nD) :
    (Pipeline.ΦA spec0 c : sProp 𝕄)
      = iprop(iprop((∃ d, owns (c : Thread nD τ) carry fullShare d)) ∗ (∃ r, prngReg c r)) := by
  unfold Pipeline.ΦA; rw [scopedRest0_eq]; simp only [carry, owns_whole]; try rfl

/-- The reshaped result is the one buffer written after the region. -/
def tailWrites : Finset (Ref sig .tc) := {main_v1}
theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  obtain rfl := List.mem_singleton.mp hops
  obtain rfl := List.mem_singleton.mp hop
  simp only [StableHlo.reshape_writes, Finset.mem_singleton] at hb
  cases Proc.devRef_injective _ hb; decide

end Cert.KernelIdeal.Stencil

end
-- ==== Proof.Body.lean ====
module

public import proofs.«01_k».proof.Proof.Setup
public import Idealize.ShloMosaic.Lib.VecWindow
public import Idealize.ShloMosaic.Lib.WritesUnit

/-! # What one run of the body leaves

`top` is the first row of a halo block, `block` the tile of the result one grid point computes. The two triples say
what a run of the body at an even point and at an odd point leaves: every input as it was, the last row of the weighted
tile in the scratch, and the tile in the lower half (even) or the upper half (odd) of the output window. -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of a block of eight rows. -/
def top (h : Vec F S1x8x2048 .f32) : Vec F S1x1x2048 .f32 := fun j => h (ix3 0 0 (j 2))

/-- The tile of the result one grid point computes, from its three tiles, its three halo blocks and the carried row. -/
def block (i : grid0.Coords) (x0 x1 x2 : Vec F S1x512x2048 .f32) (h0 h1 h2 : Vec F S1x8x2048 .f32)
    (p : Vec F S1x2048 .bf16) : FVec F S2048x4x128 .f32 :=
  let a : BitVec 32 := BitVec.ofNat 32 (i 0).val
  let w := k0_pay4 i x0 x1 x2
  k0_pay14 (k0_pay6 w) (k0_pay7 a k0_pay3 w (top h0) (top h1) (top h2)) (k0_pay8 a w p) (k0_pay9 w)
    (k0_pay10 w) (k0_pay11 a k0_pay3 w (top h0) (top h1) (top h2)) (k0_pay12 a w p) (k0_pay13 w)
    (Scalar.ofBits .bf16 0x3480#16)

/-- A place of the output window whose row within the tile row is `q`, `q < 8`. -/
abbrev at8 (a : Fin 2048) (q : Fin 8) (l : Fin 128) : S2048x1x8x128.Idx := ix4 a 0 q l
/-- Row `q` of the lower half, and row `q` of the upper half, of the eight. -/
def lo (q : Fin 4) : Fin 8 := ⟨q.val, by omega⟩
def hi (q : Fin 4) : Fin 8 := ⟨4 + q.val, by omega⟩

/-- The tile with its unit axis reads as the tile. -/
theorem pay1_at (v : FVec F S2048x4x128 .f32) (a : Fin 2048) (q : Fin 4) (l : Fin 128) :
    k0_pay1 v (ix4 a 0 q l) = v (ix3 a q l) := by
  pointwise [k0_pay1]

/-- Loading the first row of eight reads `top`. -/
theorem load_top (arg : Memref sig .tc .vmem S1x8x2048 .f32) (harg : arg.IsWhole) (h : Vec F S1x8x2048 .f32) :
    arg.view.readAt (Elt F) (Rect.unit (s := S1x8x2048) ![0, 0, 0] ![1, 1, 2048] inb_S1x8x2048_S1x1x2048_0_0_0).toLoadRect (harg.unread h) = top h := by
  rw [View.readAt_eq_ld, harg.read_unread]
  funext j
  refine congrArg h (funext fun a => Fin.ext ?_)
  have h0 : (j 0).val < 1 := (j 0).isLt
  have h1 : (j 1).val < 1 := (j 1).isLt
  match a with
  | ⟨0, _⟩ => show 0 + 1 * (j 0).val = 0; omega
  | ⟨1, _⟩ => show 0 + 1 * (j 1).val = 0; omega
  | ⟨2, _⟩ => show 0 + 1 * (j 2).val = (j 2).val; omega

/-- Loading the whole of a tile, or the whole of the carried row, reads it. -/
theorem load_tile (arg : Memref sig .tc .vmem S1x512x2048 .f32) (harg : arg.IsWhole) (x : Vec F S1x512x2048 .f32) :
    arg.view.readAt (Elt F) (Rect.unit (s := S1x512x2048) ![0, 0, 0] ![1, 512, 2048] inb_S1x512x2048_S1x512x2048_0_0_0).toLoadRect (harg.unread x) = x :=
  (View.readAt_full (s := S1x512x2048) _ _ inb_S1x512x2048_S1x512x2048_0_0_0).trans (harg.read_unread x)
theorem load_row (arg : Memref sig .tc .vmem S1x2048 .bf16) (harg : arg.IsWhole) (x : Vec F S1x2048 .bf16) :
    arg.view.readAt (Elt F) (Rect.unit (s := S1x2048) ![0, 0] ![1, 2048] inb_S1x2048_S1x2048_0_0).toLoadRect (harg.unread x) = x :=
  (View.readAt_full (s := S1x2048) _ _ inb_S1x2048_S1x2048_0_0).trans (harg.read_unread x)

set_option maxHeartbeats 1000000 in
/-- A run at an even point: the tile goes to the lower half of the output window; nothing is said of the upper half. -/
theorem body_even (c : Dev nD) (i : grid0.Coords)
    (arg1 : Memref sig .tc .vmem S1x512x2048 .f32) (harg1 : arg1.IsWhole) (arg2 : Memref sig .tc .vmem S1x512x2048 .f32) (harg2 : arg2.IsWhole)
    (arg3 : Memref sig .tc .vmem S1x512x2048 .f32) (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x8x2048 .f32) (harg6 : arg6.IsWhole)
    (arg7 : Memref sig .tc .vmem S2048x1x8x128 .f32) (harg7 : arg7.IsWhole) (arg8 : Memref sig .tc .vmem S1x2048 .bf16) (harg8 : arg8.IsWhole) (hc0 : evenPt i) (hc1 : ¬ oddPt i)
    (x0 x1 x2 : Vec F S1x512x2048 .f32) (x3 x4 x5 : Vec F S1x8x2048 .f32) (x6 : Vec F S2048x1x8x128 .f32)
    (p : Vec F S1x2048 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare p
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ (∃ d, ⌜∀ (a : Fin 2048) (q : Fin 4) (l : Fin 128), d (at8 a (lo q) l) = block i x0 x1 x2 x3 x4 x5 p (ix3 a q l)⌝ ∗ owns (c : Thread nD τ) arg7 fullShare d)
            ∗ owns (c : Thread nD τ) arg8 fullShare (k0_pay2 (k0_pay4 i x0 x1 x2))) -∗ K ⟨⟩))
      ⊢ wp frame (wpE (defs₀ (F := F)) Variants.none c none) E (cc0__stencil_kernel i arg1 harg1 arg2 harg2 arg3 harg3
          arg4 harg4 arg5 harg5 arg6 harg6 arg7 harg7 arg8 harg8) K := by
  simp only [cc0__stencil_kernel_eq_skeleton]; unfold cc0__stencil_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap
    · iexists _; isplitr; swap
      · iexact H6
      · ipureintro; rfl
    ipureintro
    intro a q l
    refine (View.read_writes_cons_unit_of_mem (off' := ![0, 0, 0, 0]) _ _ _ _ _ (at8 a (lo q) l) (ix4 a 0 q l : S2048x1x4x128.Idx) rfl ?_).trans ?_
    · intro b
      match b with
      | ⟨0, _⟩ => exact (Nat.zero_add _).symm
      | ⟨1, _⟩ => rfl
      | ⟨2, _⟩ => exact (Nat.zero_add _).symm
      | ⟨3, _⟩ => exact (Nat.zero_add _).symm
    refine (pay1_at _ a q l).trans ?_
    unfold body_even.sl.r_8 body_even.sl.r_7 body_even.sl.r_6 body_even.sl.r_5 body_even.sl.r_4 body_even.sl.r_3 body_even.sl.r_2 body_even.sl.r_1 body_even.sl.r
    simp only [load_tile, load_row, load_top]
    rfl
  iexists _; isplitr; swap
  · iexact H7
  ipureintro
  refine (View.read_writes_full _ _ _ _ _).trans ?_
  unfold body_even.sl.r
  simp only [load_tile]

set_option maxHeartbeats 1000000 in
/-- A run at an odd point: the tile goes to the upper half of the output window, the lower half stays as it was found. -/
theorem body_odd (c : Dev nD) (i : grid0.Coords)
    (arg1 : Memref sig .tc .vmem S1x512x2048 .f32) (harg1 : arg1.IsWhole) (arg2 : Memref sig .tc .vmem S1x512x2048 .f32) (harg2 : arg2.IsWhole)
    (arg3 : Memref sig .tc .vmem S1x512x2048 .f32) (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x8x2048 .f32) (harg6 : arg6.IsWhole)
    (arg7 : Memref sig .tc .vmem S2048x1x8x128 .f32) (harg7 : arg7.IsWhole) (arg8 : Memref sig .tc .vmem S1x2048 .bf16) (harg8 : arg8.IsWhole) (hc0 : ¬ evenPt i) (hc1 : oddPt i)
    (x0 x1 x2 : Vec F S1x512x2048 .f32) (x3 x4 x5 : Vec F S1x8x2048 .f32) (x6 : Vec F S2048x1x8x128 .f32)
    (p : Vec F S1x2048 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare p
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ (∃ d, ⌜(∀ (a : Fin 2048) (q : Fin 4) (l : Fin 128), d (at8 a (hi q) l) = block i x0 x1 x2 x3 x4 x5 p (ix3 a q l))
                ∧ ∀ (a : Fin 2048) (q : Fin 4) (l : Fin 128), d (at8 a (lo q) l) = x6 (at8 a (lo q) l)⌝ ∗ owns (c : Thread nD τ) arg7 fullShare d)
            ∗ owns (c : Thread nD τ) arg8 fullShare (k0_pay2 (k0_pay4 i x0 x1 x2))) -∗ K ⟨⟩))
      ⊢ wp frame (wpE (defs₀ (F := F)) Variants.none c none) E (cc0__stencil_kernel i arg1 harg1 arg2 harg2 arg3 harg3
          arg4 harg4 arg5 harg5 arg6 harg6 arg7 harg7 arg8 harg8) K := by
  simp only [cc0__stencil_kernel_eq_skeleton]; unfold cc0__stencil_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap
    · iexists _; isplitr; swap
      · iexact H6
      · ipureintro; rfl
    ipureintro
    refine ⟨fun a q l => ?_, fun a q l => ?_⟩
    · refine (View.read_writes_cons_unit_of_mem (off' := ![0, 0, 4, 0]) _ _ _ _ _ (at8 a (hi q) l) (ix4 a 0 q l : S2048x1x4x128.Idx) rfl ?_).trans ?_
      · intro b
        match b with
        | ⟨0, _⟩ => exact (Nat.zero_add _).symm
        | ⟨1, _⟩ => rfl
        | ⟨2, _⟩ => rfl
        | ⟨3, _⟩ => exact (Nat.zero_add _).symm
      refine (pay1_at _ a q l).trans ?_
      unfold body_odd.sl.r_9 body_odd.sl.r_8 body_odd.sl.r_7 body_odd.sl.r_6 body_odd.sl.r_5 body_odd.sl.r_4 body_odd.sl.r_3 body_odd.sl.r_2 body_odd.sl.r_1 body_odd.sl.r
      simp only [load_tile, load_row, load_top]
      rfl
    · refine (View.read_writes_cons_unit_of_not_mem (off' := ![0, 0, 4, 0]) _ _ _ _ _ (at8 a (lo q) l) rfl 2 (.inl ?_)).trans ?_
      · show q.val < 4; exact q.isLt
      rw [View.writes_nil, harg7.read_unread]
  iexists _; isplitr; swap
  · iexact H7
  ipureintro
  refine (View.read_writes_full _ _ _ _ _).trans ?_
  unfold body_odd.sl.r
  simp only [load_tile]

end Cert.KernelIdeal.Stencil

end
-- ==== Proof.Run.lean ====
module

public import proofs.«01_k».proof.Proof.Body
public import Idealize.ShloMosaic.Lib.Pipeline.DatRel

/-! # What the body leaves at each point

`tileAt` is the tile of the result grid point `t` computes from what the region finds, the carried row being the last
row of the weighted tile of the point before. `Leaves6` says what the output window holds after a point. The body
obligation is proved against it: at an odd point the window is found as the even point before left it. -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weighted tile of point `t`. -/
def weighted (c : Dev nD) (t : Fin cfg0.N) : FVec F S512x2048 .bf16 :=
  k0_pay4 (grid0.coords t) (iblk m c 0 t) (iblk m c 1 t) (iblk m c 2 t)

/-- The point before `t` (the first point's is itself). -/
def prev (t : Fin cfg0.N) : Fin cfg0.N := ⟨t.val - 1, by omega⟩

/-- The row carried into point `t`: the last row of the weighted tile of the point before. -/
def carried (c : Dev nD) (t : Fin cfg0.N) : Vec F S1x2048 .bf16 := k0_pay2 (weighted m c (prev t))

/-- The tile of the result that point `t` computes. -/
def tileAt (c : Dev nD) (t : Fin cfg0.N) : FVec F S2048x4x128 .f32 :=
  block (grid0.coords t) (iblk m c 0 t) (iblk m c 1 t) (iblk m c 2 t) (iblk m c 3 t) (iblk m c 4 t) (iblk m c 5 t) (carried m c t)

/-- At the first point nothing is read of the carried row. -/
theorem block_first (i : grid0.Coords) (hi : (i 0).val = 0) (x0 x1 x2 : Vec F S1x512x2048 .f32) (h0 h1 h2 : Vec F S1x8x2048 .f32)
    (p p' : Vec F S1x2048 .bf16) : block i x0 x1 x2 h0 h1 h2 p = block i x0 x1 x2 h0 h1 h2 p' := by
  have h8 : ∀ w, k0_pay8 (F := F) (BitVec.ofNat 32 (i 0).val) w p = k0_pay8 (BitVec.ofNat 32 (i 0).val) w p' := fun w => by
    rw [hi]; rfl
  unfold block
  dsimp only
  unfold k0_pay12
  rw [h8]

/-- What the output window holds after point `t`: after an even point, its tile in the lower half; after an odd point,
    the tile of the point before in the lower half and its own in the upper. -/
def Leaves6 (c : Dev nD) (t : Fin cfg0.N) (X : Vec F S2048x1x8x128 .f32) : Prop :=
  (t.val % 2 = 0 → ∀ (a : Fin 2048) (q : Fin 4) (l : Fin 128), X (at8 a (lo q) l) = tileAt m c t (ix3 a q l))
    ∧ (t.val % 2 = 1 → (∀ (a : Fin 2048) (q : Fin 4) (l : Fin 128), X (at8 a (lo q) l) = tileAt m c (prev t) (ix3 a q l))
        ∧ ∀ (a : Fin 2048) (q : Fin 4) (l : Fin 128), X (at8 a (hi q) l) = tileAt m c t (ix3 a q l))

/-- The output window is the one held to a relation, -/
def held : Fin 7 → Bool := fun w => w.val == 6
/-- this one. -/
def Rl (c : Dev nD) (w : Fin cfg0.W) (t : Fin cfg0.N) (X : (cfg0.win w).block.Idx → Elt F (cfg0.win w).elt) : Prop :=
  match w, X with
  | ⟨6, _⟩, X => Leaves6 m c t X
  | _, _ => True

/-- Between the points: the scratch row at the carried row (at anything before the first point), and the generator. -/
def Inv (c : Dev nD) (n : ℕ) : sProp 𝕄 :=
  iprop((∃ d, ⌜∀ t : Fin cfg0.N, n = t.val → n ≠ 0 → d = carried m c t⌝ ∗ owns (c : Thread nD τ) carry fullShare d) ∗ (∃ r, prngReg c r))

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := Inv m c t.val
  q w := Pipeline.shareOf spec0 w
  owed _ := 0

theorem A_eq (c : Dev nD) (w : Fin cfg0.W) : (dats m 0 c).A w = V m c (Pipeline.arrRef spec0 w) := by
  dsimp only [dats]

/-! Each input's buffer holds its block at every point. -/

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

/-- The proof data with the output window held to what it holds after each point. -/
abbrev rdat (c : Dev nD) : Pipeline.RDat τ (Elt F) Unit ℕ (UR sig nD τ) ℕ cfg0 c := (dats m 0 c).toRRel held (Rl m c)

/-- The output window is nowhere fetched. -/
theorem fetch_6 : ∀ t : Fin cfg0.N, (cfg0.win 6).fetch t = false := fun t => rfl

/-- At an odd point the output window is found as the even point before left it: the tile of that point in the lower half. -/
theorem found_odd (c : Dev nD) (t : Fin cfg0.N) (ht : t.val % 2 = 1) (Y : Vec F S2048x1x8x128 .f32) (h : (rdat m c).Finds 6 t Y)
    (a : Fin 2048) (q : Fin 4) (l : Fin 128) : Y (at8 a (lo q) l) = tileAt m c (prev t) (ix3 a q l) := by
  have hp : (prev t).val % 2 = 0 := by show (t.val - 1) % 2 = 0; omega
  rcases ((rdat m c).finds_of_pos (fetch_6 t) (by omega) Y).mp h with hf | hl
  · have := (flush0_6 (prev t)).mp hf
    omega
  · exact (((dats m 0 c).toRRel_leaves (w := 6) rfl hl : Leaves6 m c (prev t) Y).1 hp) a q l

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ Y, ⌜(rdat m c).Finds 6 t Y⌝ ∗ owns (c : Thread nD τ) (stg6 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare (iblk m c 0 t)
    ∗ owns (c : Thread nD τ) (stg1 t) fullShare (iblk m c 1 t)
    ∗ owns (c : Thread nD τ) (stg2 t) fullShare (iblk m c 2 t)
    ∗ owns (c : Thread nD τ) (stg3 t) fullShare (iblk m c 3 t)
    ∗ owns (c : Thread nD τ) (stg4 t) fullShare (iblk m c 4 t)
    ∗ owns (c : Thread nD τ) (stg5 t) fullShare (iblk m c 5 t)
    ∗ (∃ X, ⌜Leaves6 m c t X⌝ ∗ owns (c : Thread nD τ) (stg6 t) fullShare X))

/-- The row a run leaves in the scratch is the one carried into the next point. -/
theorem carried_next (c : Dev nD) (t t' : Fin cfg0.N) (h : t.val + 1 = t'.val) :
    k0_pay2 (k0_pay4 (grid0.coords t) (iblk m c 0 t) (iblk m c 1 t) (iblk m c 2 t)) = carried m c t' := by
  have e : prev t' = t := Fin.ext (by show t'.val - 1 = t.val; omega)
  unfold carried weighted
  rw [e]

/-- The first point's coordinate is zero. -/
theorem coords_val : ∀ t : Fin cfg0.N, (grid0.coords t 0).val = t.val :=
  (by decide +kernel : ∀ t : Fin grid0.N, (grid0.coords t 0).val = t.val)

/-- Whatever the scratch holds that the invariant allows, the run computes the point's tile. -/
theorem tile_eq (c : Dev nD) (t : Fin cfg0.N) (p : Vec F S1x2048 .bf16)
    (hp : ∀ t' : Fin cfg0.N, t.val = t'.val → t.val ≠ 0 → p = carried m c t') :
    block (grid0.coords t) (iblk m c 0 t) (iblk m c 1 t) (iblk m c 2 t) (iblk m c 3 t) (iblk m c 4 t) (iblk m c 5 t) p = tileAt m c t := by
  by_cases h : t.val = 0
  · exact block_first _ ((coords_val t).trans h) _ _ _ _ _ _ _ _
  · rw [hp t rfl h]; rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨⟨%p, %hp, HS⟩, Hg⟩, Ho, ⟨%d0, H0⟩, ⟨%d1, H1⟩, ⟨%d2, H2⟩, ⟨%d3, H3⟩, ⟨%d4, H4⟩, ⟨%d5, H5⟩, ⟨%Y, %hY, H6⟩⟩
  have hT := tile_eq m c t p hp
  by_cases h0 : t.val % 2 = 0
  · iapply ((body_even c (grid0.coords t) _ _ _ _ _ _ _ _ _ _ _ _ _ _ _ _ ((evenPt_iff t).mpr h0) (fun h => by have := (oddPt_iff t).mp h; omega) (iblk m c 0 t) (iblk m c 1 t) (iblk m c 2 t) (iblk m c 3 t) (iblk m c 4 t) (iblk m c 5 t) Y p) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, ⟨%X, %hX, H6⟩, HS⟩
    isplitl [HS Hg]
    · isplitl [HS]
      · iexists _; isplitr; swap
        · iexact HS
        ipureintro; exact fun t' ht' _ => carried_next m c t t' ht'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists X; isplitr; swap
    · iexact H6
    ipureintro
    exact ⟨fun _ a q l => (hX a q l).trans (congrFun hT _), fun h => absurd h (by omega)⟩
  · iapply ((body_odd c (grid0.coords t) _ _ _ _ _ _ _ _ _ _ _ _ _ _ _ _ (fun h => h0 ((evenPt_iff t).mp h)) ((oddPt_iff t).mpr (by omega)) (iblk m c 0 t) (iblk m c 1 t) (iblk m c 2 t) (iblk m c 3 t) (iblk m c 4 t) (iblk m c 5 t) Y p) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, ⟨%X, %hX, H6⟩, HS⟩
    isplitl [HS Hg]
    · isplitl [HS]
      · iexists _; isplitr; swap
        · iexact HS
        ipureintro; exact fun t' ht' _ => carried_next m c t t' ht'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists X; isplitr; swap
    · iexact H6
    ipureintro
    exact ⟨fun h => absurd h h0, fun h => ⟨fun a q l => (hX.2 a q l).trans (found_odd m c t h Y hY a q l),
      fun a q l => (hX.1 a q l).trans (congrFun hT _)⟩⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation: at every point the body leaves the inputs as they were and the output window as stated. -/
theorem body_obligation (c : Dev nD) :
    Pipeline.BodyObligationRel (dats (F := F) m 0 c) (defs₀ (F := F)) Variants.none () Set.univ held (Rl m c) := fun t => by
  rw [bigSep_W0, bigSep_W0, defs₀_row]
  exact triple_restated (sound_body m c t) rfl .rfl fun _ => .rfl

end Cert.KernelIdeal.Stencil

end
-- ==== Proof.Launch.lean ====
module

public import proofs.«01_k».proof.Proof.Run

/-! # The launch

From any memory with zero counters every weakly fair execution terminates; the counters are zero again; each windowed
array holds something the stated relation allows it to hold after the last write-back; and every other buffer holds what
the lines after the region compute from such arrays (the reshaped result among them). -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- What the lines after the region leave in buffer `b`, the region's arrays being at `A`. -/
def tailOf (c : Dev nD) (A : (w : Fin cfg0.W) → Buf (Elt F) ((cfg0.win w).arr.view.loc (c.tc : Thread nD τ))) (b : Ref sig .tc) :
    Buf (Elt F) ((c.tc : Thread nD τ).loc b) :=
  StableHlo.after (List.flatten [hostOps1]) (withArrays spec0 c (V0 m c) A) (Proc.devRef .tc b)

/-- The buffers that are no window's array. -/
abbrev others : Finset (Ref sig .tc) := restRefsP sig Prefetch.none spec0

/-- What a final state holds. -/
def Post (r : PUnit × MemSt nD τ sig (Elt F)) : Prop :=
  (∀ c : Dev nD, (∀ w : Fin cfg0.W, (rdat m c).ArrAt w cfg0.N (r.2.mem ((spec0 w).arr.view.loc (c.tc : Thread nD τ))))
    ∧ ∃ A, (∀ w, (rdat m c).ArrAt w cfg0.N (A w)) ∧ ∀ b ∈ others, r.2.mem ((c.tc : Thread nD τ).loc b) = tailOf m c A b)
  ∧ r.2.sem = fun _ => 0

local notation "pcs₀" => fun q : Fin 1 => Cfg.toPCfg (Val := Elt F) (cfgs q)
local notation "adm₀" => fun q : Fin 1 => Cfg.toPCfg_adm (Val := Elt F) (cfgs q)

/-- The arrays at the exit, opened: each at some contents it may hold; -/
theorem arraysAt_open (c : Dev nD) : ((rdat m c).arraysAt cfg0.N : sProp 𝕄)
    ⊢ iprop(∃ A, ⌜∀ w, (rdat m c).ArrAt w cfg0.N (A w)⌝ ∗ (rdat m c).arrays A) := by
  unfold RDat.arraysAt
  refine (bigSep_exists_pi Finset.univ fun w B => iprop(⌜(rdat m c).ArrAt w cfg0.N B⌝
    ∗ (cfg0.win w).arr.view.loc (c.tc : Thread nD τ) ↦[(cfg0.win w).arr.view.set]{(rdat m c).share w} B)).trans ?_
  iintro ⟨%A, H⟩
  ihave H' := (bigSep_pure_sep Finset.univ (fun w => (rdat m c).ArrAt w cfg0.N (A w)) fun w =>
    (cfg0.win w).arr.view.loc (c.tc : Thread nD τ) ↦[(cfg0.win w).arr.view.set]{(rdat m c).share w} A w) $$ H
  icases H' with ⟨%hA, H⟩
  iexists A
  isplitr
  · ipureintro; exact fun w => hA w (Finset.mem_univ w)
  unfold RDat.arrays
  iexact H

/-- and closed. -/
theorem arraysAt_close (c : Dev nD) (A) (hA : ∀ w, (rdat m c).ArrAt w cfg0.N (A w)) :
    ((rdat m c).arrays A : sProp 𝕄) ⊢ (rdat m c).arraysAt cfg0.N := by
  unfold RDat.arraysAt RDat.arrays
  refine bigSep_mono fun w _ => ?_
  show (((cfg0.win w).arr.view.loc (c.tc : Thread nD τ) ↦[(cfg0.win w).arr.view.set]{(rdat m c).share w} A w) : sProp 𝕄)
    ⊢ iprop(∃ B, ⌜(rdat m c).ArrAt w cfg0.N B⌝ ∗ (cfg0.win w).arr.view.loc (c.tc : Thread nD τ) ↦[(cfg0.win w).arr.view.set]{(rdat m c).share w} B)
  iintro H
  iexists A w
  isplitr
  · ipureintro; exact hA w
  iexact H

/-- The invariant before the first point holds of what the region leaves the body, -/
theorem inv_first (c : Dev nD) : (ΦA spec0 c : sProp 𝕄) ⊢ (rdat m c).Φ 0 := by
  rw [ΦA_eq, show (rdat m c).Φ 0 = Inv m c 0 from rfl]
  unfold Inv
  iintro ⟨⟨%d, H⟩, Hg⟩
  isplitl [H]
  · iexists d; isplitr
    · ipureintro; exact fun _ _ h => absurd rfl h
    iexact H
  iexact Hg

/-- and the invariant after the last gives it back. -/
theorem inv_last (c : Dev nD) : ((rdat m c).Φ (Fin.last cfg0.N) : sProp 𝕄) ⊢ ΦA spec0 c := by
  rw [ΦA_eq, show (rdat m c).Φ (Fin.last cfg0.N) = Inv m c cfg0.N from rfl]
  unfold Inv
  iintro ⟨⟨%d, -, H⟩, Hg⟩
  isplitl [H]
  · iexists d; iexact H
  iexact Hg

set_option backward.isDefEq.respectTransparency.types false in
set_option maxHeartbeats 1600000 in
/-- Every weakly fair execution terminates in a state that `Post` describes. -/
theorem run_post : θ_run defs (onTc (τ := τ) (main (F := F))) (s₀ m ρ) (Post m) := by
  classical
  exact RDat.θ_run_region_pf_tail_quiescent pcs₀ adm₀ (RDat.familyOf pcs₀ adm₀ (0 : Fin 1) (rdat m)) ()
    (launch₀0.toP.cellOf_inj adm₀) (0 : Fin 1) launch₀0.win (OwnSemFacts.none spec0) (PreFacts.none _) emb₁ defs₀ Variants.none m ρ main
    (fun _ => chain ([hostOps1].map StableHlo.seq)) (fun c => by rw [RDat.familyOf_self]; exact (body_obligation m c).toRRel)
    launch₀0.block_pos launch₀0.arr_whole launch₀0.stage_whole (fun c t => by rw [RDat.familyOf_self]; rfl)
    (G := fun _ => iprop(emp)) (u₀ := initOf (cells (pin pcs₀ adm₀) (launch₀0.toP.cellOf_inj adm₀)) (launchToks (pin pcs₀ adm₀) (launch₀0.toP.cellOf_inj adm₀)))
    (hu₀ := by
      iintro Hu; imodintro
      isplitl [Hu]; · iapply (show (ownU _ : sProp 𝕄) ⊢ BI.own (emb₁ (initOf (cells (pin pcs₀ adm₀) (launch₀0.toP.cellOf_inj adm₀)) (launchToks (pin pcs₀ adm₀) (launch₀0.toP.cellOf_inj adm₀)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]
      exact (rdat m c).arrays_split_shared launch₀0.sharedIn launch₀0.arr_whole (fun _ _ => rfl) (V m c) _ (A_eq m c))
    (hpf := fun _ k => k.elim0)
    (X := fun c => iprop(∃ r, prngReg c r)) (Y := fun c => iprop(∃ r, prngReg c r))
    (Z := fun c => unscopedRestP Prefetch.none spec0 c (V m c))
    (Z' := fun c => iprop(∃ A, ⌜∀ w, (rdat m c).ArrAt w cfg0.N (A w)⌝ ∗ unscopedRestP Prefetch.none spec0 c (tailOf m c A)))
    (hX := fun c => by
      iintro ⟨HU, -, -, Hp, -⟩; imodintro
      isplitl [Hp]; · iexists _; iexact Hp
      iexact HU)
    (hin := fun c => by
      rw [RDat.familyOf_self]
      refine BIBase.Entails.trans ?_ (inv_first m c)
      unfold ΦA
      iintro ⟨Hp, -, Hr⟩
      isplitl [Hr]; · iexact Hr
      iexact Hp)
    (hout := fun c => by
      rw [RDat.familyOf_self]
      refine (inv_last m c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_open m c) $$ Ha
      icases Ha' with ⟨%A, %hA', Ha⟩
      have hB : (rdat m c).arrays A = arrBufs spec0 c (fun b => withArrays spec0 c (V0 m c) A (Proc.devRef .tc b)) :=
        ((rdat m c).arrBufs_eq_arrays launch₀0.sharedIn launch₀0.arr_whole (fun _ _ => rfl) _ A fun w =>
          (withArrays_arr_shared spec0 c (V0 m c) A ((rdat m c).ArrAt_sharedIn launch₀0.sharedIn (V0 m c) (A_eq m c) cfg0.N A hA') w).symm).symm
      iapply (tail_seqs_bufs_b pcs₀ defs₀ Variants.none Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]; · iapply (arraysAt_close m c A hA'); iapply (Entails.of_eq hB.symm); iexact Ha2
        iexists A; isplitr
        · ipureintro; exact hA'
        iexact Hu
      · isplitl [Hb]; · iexact Hb
        isplitl [Ha]; · iapply (Entails.of_eq hB); iexact Ha
        iexact HZ)
    (QY := fun c s => ∃ A, (∀ w, (rdat m c).ArrAt w cfg0.N (A w)) ∧ ∀ b ∈ others, s.mem ((c.tc : Thread nD τ).loc b) = tailOf m c A b)
    (hY := fun c s' => by
      iintro ⟨-, HZ, HSI⟩
      icases HZ with ⟨%A, %hA, HZ⟩
      unfold unscopedRestP
      ihave HZ' := (pointsTo_read_all others (fun b => (c.tc : Thread nD τ).loc b) (tailOf m c A) s') $$ [HZ HSI]
      · isplitl [HZ] <;> iassumption
      icases HZ' with ⟨%hZ, HSI⟩
      imodintro
      isplitr
      · ipureintro; exact ⟨A, hA, hZ⟩
      · iexact HSI)
    (hQ := fun s h hz => ⟨fun c => ⟨fun w => by simpa only [RDat.familyOf_self] using (h c).1 w, (h c).2.2⟩, hz⟩)

end Cert.KernelIdeal.Stencil

end
-- ==== Proof.Array.lean ====
module

public import proofs.«01_k».proof.Proof.Launch
public import Idealize.ShloMosaic.Lib.Pipeline.ValueKit

/-! # The result array

The array behind the output window holds, after the run, row `j 2 / 4` of the half-blocks of block column `j 1`: the tile
of grid point `2 * j 1 + j 2 / 4`. -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The whole result array: the tiles of the four points, each in its place. -/
def result (c : Dev nD) : FVec F S2048x2x8x128 .f32 := fun j =>
  tileAt m c ⟨2 * (j 1).val + (j 2).val / 4, by
    have h1 : (j 1).val < 2 := (j 1).isLt
    have h2 : (j 2).val < 8 := (j 2).isLt
    show _ < 4
    omega⟩ (ix3 (j 0) ⟨(j 2).val % 4, Nat.mod_lt _ (by norm_num)⟩ (j 3))

/-- The output window's block at a point: the block column is half the point. -/
theorem index_6 : ∀ t : Fin cfg0.N, win0_6.index t = ![0, t.val / 2, 0, 0] :=
  (by decide +kernel : ∀ t : Fin grid0.N, _)

/-- Tiles at equal points and equal indices are equal. -/
theorem tileAt_congr (c : Dev nD) {t t' : Fin cfg0.N} {y y' : S2048x4x128.Idx} (ht : t.val = t'.val) (hy : y = y') :
    tileAt m c t y = tileAt m c t' y' := by
  rw [Fin.ext ht, hy]

/-- What the output window holds after an odd point is `result` at the block's place. -/
theorem leaves_result (c : Dev nD) (t : Fin cfg0.N) (ho : t.val % 2 = 1) (X : Vec F S2048x1x8x128 .f32) (hL : Leaves6 m c t X)
    (y : S2048x1x8x128.Idx) (z : S2048x2x8x128.Idx) (h0 : (z 0).val = (y 0).val) (h1 : (z 1).val = t.val / 2)
    (h2 : (z 2).val = (y 2).val) (h3 : (z 3).val = (y 3).val) : X y = result m c z := by
  have b0 : (y 0).val < 2048 := (y 0).isLt
  have b1 : (y 1).val < 1 := (y 1).isLt
  have b2 : (y 2).val < 8 := (y 2).isLt
  have b3 : (y 3).val < 128 := (y 3).isLt
  have e : ∀ (q : Fin 8), (y 2).val = q.val → y = (ix4 ⟨(y 0).val, b0⟩ 0 q ⟨(y 3).val, b3⟩ : S2048x1x8x128.Idx) := fun q hq => by
    funext a; apply Fin.ext
    fin_cases a
    · rfl
    · show (y 1).val = 0
      omega
    · exact hq
    · rfl
  have ez : ∀ q : Fin 4, (y 2).val % 4 = q.val →
      (ix3 ⟨(y 0).val, b0⟩ q ⟨(y 3).val, b3⟩ : S2048x4x128.Idx) = ix3 (z 0) ⟨(z 2).val % 4, Nat.mod_lt _ (by norm_num)⟩ (z 3) := fun q hq => by
    funext a; apply Fin.ext
    fin_cases a
    · exact h0.symm
    · show q.val = (z 2).val % 4
      omega
    · exact h3.symm
  by_cases hlt : (y 2).val < 4
  · rw [e (lo ⟨(y 2).val, hlt⟩) rfl]
    refine ((hL.2 ho).1 _ _ _).trans ?_
    exact tileAt_congr m c (by show t.val - 1 = 2 * (z 1).val + (z 2).val / 4; omega) (ez _ (Nat.mod_eq_of_lt hlt))
  · rw [e (hi ⟨(y 2).val - 4, by omega⟩) (by show (y 2).val = 4 + ((y 2).val - 4); omega)]
    refine ((hL.2 ho).2 _ _ _).trans ?_
    exact tileAt_congr m c (by show t.val = 2 * (z 1).val + (z 2).val / 4; omega) (ez _ (by show (y 2).val % 4 = (y 2).val - 4; omega))

/-- Whatever the array may hold after the last write-back is `result`. -/
theorem array_eq (c : Dev nD) (A) (hA : (rdat m c).ArrAt 6 cfg0.N A) : A = result m c := by
  obtain ⟨X, hX, hA⟩ := RDat.ArrAt.exists_exact hA
  rw [hA (Function.update (fun _ _ _ => Classical.arbitrary _) 6 X) fun u _ _ => by rw [Function.update_self]]
  refine Dat.arrAt_eq_of_covers _ 6 _ (by decide +kernel) fun t hf y => ?_
  have hL : Leaves6 m c t (X t) := (dats m 0 c).toRRel_leaves (w := 6) rfl (hX t t.isLt hf)
  have ho : t.val % 2 = 1 := (flush0_6 t).mp hf
  rw [RDat.withAfter_after, Function.update_self]
  blk_simp
  have i0 : ((((cfg0.win 6).blk t).view.emb y) 0 : ℕ) = (y 0 : ℕ) := by blk_simp [index_6 t]
  have i1 : ((((cfg0.win 6).blk t).view.emb y) 1 : ℕ) = t.val / 2 := by
    blk_simp [index_6 t]
  have i2 : ((((cfg0.win 6).blk t).view.emb y) 2 : ℕ) = (y 2 : ℕ) := by blk_simp [index_6 t]
  have i3 : ((((cfg0.win 6).blk t).view.emb y) 3 : ℕ) = (y 3 : ℕ) := by blk_simp [index_6 t]
  exact leaves_result m c t ho (X t) hL y _ i0 i1 i2 i3

end Cert.KernelIdeal.Stencil

end
-- ==== Proof.Whole.lean ====
module

public import proofs.«01_k».proof.Proof.Array

/-! # The run of the kernel program

Every weakly fair execution terminates, the first result the zero word, the second the result array flattened, the
argument unchanged, and the counters zero. -/

@[expose] public section

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The lines after the region leave the first result as the lines before it set it: zero. -/
theorem tail_c (c : Dev nD) (A) : tailOf m c A main_c = constantI S1 32 0#32 := by
  unfold tailOf
  simp only [List.flatten_cons, List.flatten_nil, List.append_nil]
  after_results
  rw [withArrays_of_ne spec0 c (V0 m c) A main_c (by decide)]
  simp only [V0, List.flatten_cons, List.flatten_nil, List.append_nil]
  after_results

/-- The lines after the region leave the second result at the array of the output window, flattened. -/
theorem tail_v1 (c : Dev nD) (A) (hA : ∀ w, (rdat m c).ArrAt w cfg0.N (A w)) :
    tailOf m c A main_v1 = shapeCast S4194304 (A 6 : FVec F S2048x2x8x128 .f32) shapeCasts_S2048x2x8x128_S4194304 := by
  unfold tailOf
  simp only [List.flatten_cons, List.flatten_nil, List.append_nil]
  after_results
  rw [show withArrays spec0 c (V0 m c) A (Proc.tc.devRef main_v0) = A 6 from
    withArrays_arr_shared spec0 c (V0 m c) A ((rdat m c).ArrAt_sharedIn launch₀0.sharedIn (V0 m c) (A_eq m c) cfg0.N A hA) 6]
  rfl

/-- What the run ends with. -/
theorem run_values : θ_run defs (onTc (τ := τ) (main (F := F))) ⟨m, fun _ => 0, ρ⟩ (fun r =>
    (∀ c : Dev nD, r.2.mem ((c.tc : Thread nD τ).loc main_c) = constantI S1 32 0#32
      ∧ r.2.mem ((c.tc : Thread nD τ).loc main_v1) = shapeCast S4194304 (result m c) shapeCasts_S2048x2x8x128_S4194304
      ∧ r.2.mem ((c.tc : Thread nD τ).loc main_arg0) = m ((c.tc : Thread nD τ).loc main_arg0))
    ∧ r.2.sem = fun _ => 0) := by
  refine (θ_run defs _ _).mono (fun r h => ⟨fun c => ?_, h.2⟩) (run_post m ρ)
  obtain ⟨hA, A, hA', hb⟩ := h.1 c
  refine ⟨(hb main_c (by decide)).trans (tail_c m c A), (hb main_v1 (by decide)).trans ((tail_v1 m c A hA').trans ?_), ?_⟩
  · rw [array_eq m c (A 6) (hA' 6)]
  · have h5 := hA 5
    rw [RDat.ArrAt_in (rdat m c) 5 rfl] at h5
    exact h5.trans ((A_eq m c 5).trans (V_main_arg0 m c))

end Cert.KernelIdeal.Stencil

end
-- ==== Proof.Spec.lean ====
module

public import Idealize.ShloMosaic.Lib.Pointwise
public import Idealize.ShloMosaic.Lib.IdealHost

/-! # What both programs compute

`level` is the value of a cell from its entries in planes 2, 3 and 4; `weight x b a` the value of cell `(b, a)` of the
planes, zero outside the interior (rows and columns 1 to 2046); `policy x a b` the first nonzero one of the weights of
the four neighbours, in the order `(b, a + 1)`, `(b + 1, a)`, `(b - 1, a)`, `(b, a - 1)`, or the scale `2⁻²²`. -/

@[expose] public section

set_option maxRecDepth 16384

noncomputable section

namespace Cert.Stencil

open Idealize.ShloMosaic

/-- The five planes. -/
abbrev Planes : Shape := ⟨3, ![5, 2048, 2048]⟩

/-- The constants of the two programs. -/
theorem ten : Ideal.ofBits .f32 0x41200000#32 = ((10 : ℝ) : EReal) := by
  simp [Ideal.ofBits, Ideal.ieee, -EReal.coe_mul]; norm_num
theorem hundred : Ideal.ofBits .f32 0x42C80000#32 = ((100 : ℝ) : EReal) := by
  simp [Ideal.ofBits, Ideal.ieee, -EReal.coe_mul]; norm_num
theorem thousand : Ideal.ofBits .f32 0x447A0000#32 = ((1000 : ℝ) : EReal) := by
  simp [Ideal.ofBits, Ideal.ieee, -EReal.coe_mul]; norm_num
/-- The scale is one number, written in either format. -/
theorem scale : Ideal.ofBits .bf16 0x3480#16 = Ideal.ofBits .f32 0x34800000#32 := by
  simp [Ideal.ofBits, Ideal.ieee, -EReal.coe_mul]; norm_num

/-- The value of a cell whose entries in planes 2, 3 and 4 are `u`, `v` and `w`. -/
def level (u v w : EReal) : EReal :=
  if u = 1 then ((1000 : ℝ) : EReal) else if v = 1 then ((100 : ℝ) : EReal) else if w = 1 then ((10 : ℝ) : EReal) else 0

/-- For entries zero or one the value is ten times the greatest of `100 u`, `10 v` and `w`. -/
theorem level_eq (u v w : EReal) (hu : u = 0 ∨ u = 1) (hv : v = 0 ∨ v = 1) (hw : w = 0 ∨ w = 1) :
    max (max (u * ((100 : ℝ) : EReal)) (v * ((10 : ℝ) : EReal))) w * ((10 : ℝ) : EReal) = level u v w := by
  have e : ∀ a b c : ℝ, max (max ((a : EReal) * ((100 : ℝ) : EReal)) ((b : EReal) * ((10 : ℝ) : EReal))) (c : EReal) * ((10 : ℝ) : EReal)
      = ((max (max (a * 100) (b * 10)) c * 10 : ℝ) : EReal) := fun a b c => by
    norm_cast
  have z : (0 : EReal) = ((0 : ℝ) : EReal) := rfl
  have o : (1 : EReal) = ((1 : ℝ) : EReal) := rfl
  have n : (0 : EReal) ≠ 1 := zero_ne_one
  unfold level
  rcases hu with rfl | rfl <;> rcases hv with rfl | rfl <;> rcases hw with rfl | rfl <;>
    simp only [if_true, if_neg n] <;> (try rw [z]) <;> (try rw [o]) <;> rw [e] <;> norm_num

/-- Cell `(b, a)` is interior. -/
def Interior (b a : ℕ) : Prop := (1 ≤ b ∧ b ≤ 2046) ∧ (1 ≤ a ∧ a ≤ 2046)

instance (b a : ℕ) : Decidable (Interior b a) := inferInstanceAs (Decidable (_ ∧ _))

/-- The weight of cell `(b, a)`. -/
def weight (x : FVec Ideal Planes .f32) (b a : ℕ) : EReal :=
  if h : Interior b a then
    level (x (ix3 2 ⟨b, by have := h.1; omega⟩ ⟨a, by have := h.2; omega⟩)) (x (ix3 3 ⟨b, by have := h.1; omega⟩ ⟨a, by have := h.2; omega⟩))
      (x (ix3 4 ⟨b, by have := h.1; omega⟩ ⟨a, by have := h.2; omega⟩))
  else 0

/-- `v` if it is not zero, else `w`. -/
def orElse (v w : EReal) : EReal := if v ≠ 0 then v else w

/-- The result at row `a` and column `b`. -/
def policy (x : FVec Ideal Planes .f32) (a b : ℕ) : EReal :=
  orElse (weight x b (a + 1)) (orElse (weight x (b + 1) a) (orElse (weight x (b - 1) a) (orElse (weight x b (a - 1))
    (Ideal.ofBits .f32 0x34800000#32))))

end Cert.Stencil

end
-- ==== Proof.Tile.lean ====
module

public import proofs.«01_k».proof.Proof.Body
public import proofs.«01_k».proof.Proof.Spec
public import Idealize.ShloMosaic.Lib.Pointwise
public import Idealize.ShloMosaic.Lib.WordCmp

/-! # The tile one grid point computes, read at an index

The body masks the weighted tile to the interior, takes the four shifted tiles, picks the first that is not zero, and
turns the picked tile over by four products with the unit matrix. Read at an index, over the extended reals, that is
the pick among the four shifted tiles at one place. -/

@[expose] public section

set_option maxRecDepth 16384

noncomputable section

namespace Cert.KernelIdeal.Stencil

open Cert.KernelIdeal Cert.KernelIdeal.Gen Cert.Stencil
open Idealize.ShloMosaic Idealize.ShloMosaic.TcCoe

/-- A word between 1 and 2046, as the two signed comparisons test it. -/
theorem inside (n : ℕ) (hn : n < 4096) :
    IntOp.andi (IntOp.cmpi .sge (BitVec.ofNat 32 n) 1#32) (IntOp.cmpi .sle (BitVec.ofNat 32 n) 2046#32)
      = if 1 ≤ n ∧ n ≤ 2046 then 1#1 else 0#1 := by
  have hi : (BitVec.ofNat 32 n).toInt = (n : Int) := by
    rw [BitVec.toInt_eq_toNat_cond, BitVec.toNat_ofNat]
    split <;> omega
  have h1 : (1#32 : BitVec 32).toInt = 1 := by decide
  have h2 : (2046#32 : BitVec 32).toInt = 2046 := by decide
  simp only [IntOp.andi, IntOp.cmpi, BitVec.sle, hi, h1, h2]
  by_cases a : 1 ≤ n <;> by_cases b : n ≤ 2046 <;> simp [a, b] <;> omega

/-- The row of the whole plane at which row `r` of tile `s` lies, as the body counts it. -/
theorem row_word (s r : ℕ) : IntOp.addi (Scalar.muli (BitVec.ofNat 32 s) 512#32) (BitVec.ofNat 32 r) = BitVec.ofNat 32 (512 * s + r) := by
  show BitVec.ofNat 32 s * 512#32 + BitVec.ofNat 32 r = _
  apply BitVec.eq_of_toNat_eq
  simp only [BitVec.toNat_add, BitVec.toNat_mul, BitVec.toNat_ofNat]
  omega

/-- The raw value of a place: ten times the greatest of `100 u`, `10 v`, `w`. -/
def raw (u v w : EReal) : EReal := max (max (u * ((100 : ℝ) : EReal)) (v * ((10 : ℝ) : EReal))) w * ((10 : ℝ) : EReal)

/-- The weighted tile at row `r`, column `a`. -/
theorem pay4_at (i : grid0.Coords) (hi : (i 0).val < 4) (x0 x1 x2 : FVec Ideal S1x512x2048 .f32) (r : Fin 512) (a : Fin 2048) :
    k0_pay4 (F := Ideal) i x0 x1 x2 (ix2 r a)
      = if Interior (512 * (i 0).val + r.val) a.val then raw (x0 (ix3 0 r a)) (x1 (ix3 0 r a)) (x2 (ix3 0 r a)) else 0 := by
  pointwise [k0_pay4, k0_pay3]
  rw [row_word, inside _ (by omega), inside _ (by omega), ten, hundred]
  unfold raw
  by_cases h : 1 ≤ 512 * (i 0).val + r.val ∧ 512 * (i 0).val + r.val ≤ 2046
  · by_cases h' : 1 ≤ a.val ∧ a.val ≤ 2046
    · have hI : Interior (512 * (i 0).val + r.val) a.val := ⟨h, h'⟩
      rw [if_pos h, if_pos h', if_pos hI]; rfl
    · have hI : ¬ Interior (512 * (i 0).val + r.val) a.val := fun e => h' e.2
      rw [if_pos h, if_neg h', if_neg hI]; rfl
  · have hI : ¬ Interior (512 * (i 0).val + r.val) a.val := fun e => h e.1
    rw [if_neg h, if_neg hI]; rfl

/-- The last row of a tile. -/
theorem pay2_at (w : FVec Ideal S512x2048 .bf16) (a : Fin 2048) : k0_pay2 (F := Ideal) w (ix2 0 a) = w (ix2 511 a) := by
  pointwise [k0_pay2]

/-- The tile moved one column back: column `a` holds column `a + 1`, the last one zero. -/
theorem pay6_at (w : FVec Ideal S512x2048 .bf16) (r : Fin 512) (a : Fin 2048) :
    k0_pay6 (F := Ideal) w (ix2 r a) = if h : a.val < 2047 then w (ix2 r ⟨1 + a.val, by omega⟩) else 0 := by
  pointwise [k0_pay6, k0_pay5]

/-- The tile moved one column on: column `a` holds column `a - 1`, the first one zero. -/
theorem pay9_at (w : FVec Ideal S512x2048 .bf16) (r : Fin 512) (a : Fin 2048) :
    k0_pay9 (F := Ideal) w (ix2 r a) = if h : a.val < 1 then 0 else w (ix2 r ⟨a.val - 1, by omega⟩) := by
  pointwise [k0_pay9, k0_pay5]

/-- The tile moved one row up, the first row of the halo blocks below it; zero in the last tile. -/
theorem pay7_at (s : ℕ) (hs : s < 4) (w : FVec Ideal S512x2048 .bf16) (h0 h1 h2 : FVec Ideal S1x1x2048 .f32) (r : Fin 512) (a : Fin 2048) :
    k0_pay7 (F := Ideal) (BitVec.ofNat 32 s) k0_pay3 w h0 h1 h2 (ix2 r a)
      = if h : r.val < 511 then w (ix2 ⟨1 + r.val, by omega⟩ a)
        else if s = 3 then 0 else if 1 ≤ a.val ∧ a.val ≤ 2046 then raw (h0 (ix3 0 0 a)) (h1 (ix3 0 0 a)) (h2 (ix3 0 0 a)) else 0 := by
  pointwise [k0_pay7, k0_pay3]
  by_cases h : r.val < 511
  · rw [dif_pos h, dif_pos h]
  rw [dif_neg h, dif_neg h, inside _ (by omega), ten, hundred]
  have e : Scalar.cmpi .eq (BitVec.ofNat 32 s) 3#32 = if s = 3 then 1#1 else 0#1 := by
    interval_cases s <;> rfl
  rw [e]
  by_cases h3 : s = 3
  · rw [if_pos h3, if_pos h3]; rfl
  rw [if_neg h3, if_neg h3]
  by_cases h' : 1 ≤ a.val ∧ a.val ≤ 2046
  · rw [if_pos h', if_pos h']; rfl
  · rw [if_neg h', if_neg h']; rfl

/-- The tile moved one row down, the carried row above it; zero in the first tile. -/
theorem pay8_at (s : ℕ) (hs : s < 4) (w : FVec Ideal S512x2048 .bf16) (p : FVec Ideal S1x2048 .bf16) (r : Fin 512) (a : Fin 2048) :
    k0_pay8 (F := Ideal) (BitVec.ofNat 32 s) w p (ix2 r a)
      = if h : r.val < 1 then (if s = 0 then 0 else p (ix2 0 a)) else w (ix2 ⟨r.val - 1, by omega⟩ a) := by
  pointwise [k0_pay8]
  by_cases h : r.val < 1
  · rw [dif_pos h, dif_pos h]
    have e : Scalar.cmpi .eq (BitVec.ofNat 32 s) 0#32 = if s = 0 then 1#1 else 0#1 := by
      interval_cases s <;> rfl
    have r0 : (⟨r.val, h⟩ : Fin 1) = 0 := Subsingleton.elim _ _
    rw [e, r0]
    by_cases h0 : s = 0
    · rw [if_pos h0, if_pos h0]; rfl
    · rw [if_neg h0, if_neg h0]; rfl
  · rw [dif_neg h, dif_neg h]

/-- The entries of the unit matrix. -/
theorem unit_entry (x l : ℕ) (hx : x < 128) (hl : l < 128) :
    FloatOps.sitofp (F := Ideal) .f32 (BitVec.setWidth 32 (IntOp.cmpi .eq (IntOp.addi (BitVec.ofNat 32 x) 0#32) (BitVec.ofNat 32 l)))
      = (if x = l then 1 else 0 : EReal) := by
  have e : IntOp.addi (BitVec.ofNat 32 x) 0#32 = BitVec.ofNat 32 x := BitVec.add_zero _
  rw [e]
  by_cases h : x = l
  · subst h
    rw [if_pos rfl]
    have : IntOp.cmpi .eq (BitVec.ofNat 32 x) (BitVec.ofNat 32 x) = 1#1 := by simp [IntOp.cmpi]
    rw [this]
    show (((BitVec.setWidth 32 (1#1)).toInt : ℝ) : EReal) = 1
    norm_num
  · rw [if_neg h]
    have : IntOp.cmpi .eq (BitVec.ofNat 32 x) (BitVec.ofNat 32 l) = 0#1 := by
      have : BitVec.ofNat 32 x ≠ BitVec.ofNat 32 l := fun e => h (by
        have := congrArg BitVec.toNat e
        simp only [BitVec.toNat_ofNat] at this
        omega)
      show BitVec.ofBool (BitVec.ofNat 32 x == BitVec.ofNat 32 l) = 0#1
      rw [beq_eq_false_iff_ne.mpr this]
      rfl
    rw [this]
    show (((BitVec.setWidth 32 (0#1)).toInt : ℝ) : EReal) = 0
    norm_num

/-- A row against a column of the unit matrix picks one entry. -/
theorem unit_sum (f : Fin 128 → EReal) (l : ℕ) (hl : l < 128) :
    ∑ x : Fin 128, f x * FloatOps.sitofp (F := Ideal) .f32
        (BitVec.setWidth 32 (IntOp.cmpi .eq (IntOp.addi (BitVec.ofNat 32 x.val) 0#32) (BitVec.ofNat 32 l))) = f ⟨l, hl⟩ := by
  rw [Finset.sum_eq_single (⟨l, hl⟩ : Fin 128)]
  · rw [unit_entry _ _ hl hl, if_pos rfl, mul_one]
  · intro x _ hx
    rw [unit_entry _ _ x.isLt hl, if_neg fun e => hx (Fin.ext e), mul_zero]
  · exact fun h => absurd (Finset.mem_univ _) h

/-- The picked tile turned over: place `(a, q, l)` holds the pick at row `128 q + l`, column `a`. -/
theorem pay14_at (x1 x2 x3 x4 : FVec Ideal S512x2048 .bf16) (c1 c2 c3 c4 : IVec S512x2048 1) (s : EReal) (a : Fin 2048) (q : Fin 4) (l : Fin 128)
    (r : Fin 512) (hr : r.val = 128 * q.val + l.val) :
    k0_pay14 (F := Ideal) x1 x2 x3 x4 c1 c2 c3 c4 s (ix3 a q l)
      = Scalar.select (c1 (ix2 r a)) (x1 (ix2 r a)) (Scalar.select (c2 (ix2 r a)) (x2 (ix2 r a))
          (Scalar.select (c3 (ix2 r a)) (x3 (ix2 r a)) (Scalar.select (c4 (ix2 r a)) (x4 (ix2 r a)) s))) := by
  obtain ⟨q, hq⟩ := q
  obtain ⟨l, hl⟩ := l
  obtain ⟨r, hr'⟩ := r
  dsimp only at hr
  subst hr
  pointwise [k0_pay14]
  interval_cases q
  · rw [dif_pos (by omega)]
    refine (unit_sum (fun x : Fin 128 => _) _ (by omega)).trans ?_
    simp only [Nat.mul_zero, Nat.zero_mul, Nat.zero_add]
  · rw [dif_neg (by omega), dif_pos (by omega)]
    refine (unit_sum (fun x : Fin 128 => _) _ (by omega)).trans ?_
    simp only [show 1 * 128 + l - 128 = l by omega, show 128 * 1 + l = 128 + l by omega]
  · rw [dif_neg (by omega), dif_neg (by omega), dif_pos (by omega)]
    refine (unit_sum (fun x : Fin 128 => _) _ (by omega)).trans ?_
    simp only [show 2 * 128 + l - 128 - 128 = l by omega, show 128 * 2 + l = 256 + l by omega]
  · rw [dif_neg (by omega), dif_neg (by omega), dif_neg (by omega)]
    refine (unit_sum (fun x : Fin 128 => _) _ (by omega)).trans ?_
    simp only [show 3 * 128 + l - 128 - 128 - 128 = l by omega, show 128 * 3 + l = 384 + l by omega]

/-- A choice by a test against zero is `orElse`. -/
theorem select_ne (v w : EReal) : Scalar.select (BitVec.ofBool (decide (v ≠ 0))) v w = orElse v w := by
  unfold orElse
  by_cases h : v ≠ 0
  · rw [if_pos h, decide_eq_true h]; rfl
  · rw [if_neg h, decide_eq_false h]; rfl

/-- The tests of the four shifted tiles against zero. -/
theorem pay10_at (w : FVec Ideal S512x2048 .bf16) (r : Fin 512) (a : Fin 2048) :
    k0_pay10 (F := Ideal) w (ix2 r a) = BitVec.ofBool (decide ((k0_pay6 (F := Ideal) w (ix2 r a) : EReal) ≠ 0)) := by
  pointwise [k0_pay10]
theorem pay11_at (s : BitVec 32) (w : FVec Ideal S512x2048 .bf16) (h0 h1 h2 : FVec Ideal S1x1x2048 .f32) (r : Fin 512) (a : Fin 2048) :
    k0_pay11 (F := Ideal) s k0_pay3 w h0 h1 h2 (ix2 r a)
      = BitVec.ofBool (decide ((k0_pay7 (F := Ideal) s k0_pay3 w h0 h1 h2 (ix2 r a) : EReal) ≠ 0)) := by
  pointwise [k0_pay11]
theorem pay12_at (s : BitVec 32) (w : FVec Ideal S512x2048 .bf16) (p : FVec Ideal S1x2048 .bf16) (r : Fin 512) (a : Fin 2048) :
    k0_pay12 (F := Ideal) s w p (ix2 r a) = BitVec.ofBool (decide ((k0_pay8 (F := Ideal) s w p (ix2 r a) : EReal) ≠ 0)) := by
  pointwise [k0_pay12]
theorem pay13_at (w : FVec Ideal S512x2048 .bf16) (r : Fin 512) (a : Fin 2048) :
    k0_pay13 (F := Ideal) w (ix2 r a) = BitVec.ofBool (decide ((k0_pay9 (F := Ideal) w (ix2 r a) : EReal) ≠ 0)) := by
  pointwise [k0_pay13]

/-- The tile at `(a, q, l)`: the first of the four shifted tiles that is not zero at row `r = 128 q + l`, column `a`. -/
theorem block_at (i : grid0.Coords) (x0 x1 x2 : FVec Ideal S1x512x2048 .f32) (h0 h1 h2 : FVec Ideal S1x8x2048 .f32)
    (p : FVec Ideal S1x2048 .bf16) (a : Fin 2048) (q : Fin 4) (l : Fin 128) (r : Fin 512) (hr : r.val = 128 * q.val + l.val) :
    block (F := Ideal) i x0 x1 x2 h0 h1 h2 p (ix3 a q l)
      = orElse (k0_pay6 (F := Ideal) (k0_pay4 i x0 x1 x2) (ix2 r a))
        (orElse (k0_pay7 (F := Ideal) (BitVec.ofNat 32 (i 0).val) k0_pay3 (k0_pay4 i x0 x1 x2) (top h0) (top h1) (top h2) (ix2 r a))
          (orElse (k0_pay8 (F := Ideal) (BitVec.ofNat 32 (i 0).val) (k0_pay4 i x0 x1 x2) p (ix2 r a))
            (orElse (k0_pay9 (F := Ideal) (k0_pay4 i x0 x1 x2) (ix2 r a)) (Ideal.ofBits .f32 0x34800000#32)))) := by
  unfold block
  refine (pay14_at _ _ _ _ _ _ _ _ _ a q l r hr).trans ?_
  have e : Scalar.ofBits (F := Ideal) .bf16 0x3480#16 = Ideal.ofBits .f32 0x34800000#32 := scale
  rw [e]
  rw [pay10_at, pay11_at, pay12_at, pay13_at, select_ne, select_ne, select_ne, select_ne]

end Cert.KernelIdeal.Stencil

end
-- ==== Proof.Values.lean ====
module

public import proofs.«01_k».proof.Proof.Whole
public import proofs.«01_k».proof.Proof.Tile

/-! # The kernel's result, number by number

Where planes 2, 3 and 4 hold zeros and ones in their interior, the weighted tile of grid point `t` holds the weights of rows `512 t` to `512 t + 511`,
the tile it leaves is the policy there, and the flattened result holds the policy at row `n / 2048`, column `n % 2048`. -/

@[expose] public section

set_option maxRecDepth 16384

noncomputable section

namespace Cert.KernelIdeal.Stencil

open Cert.KernelIdeal Cert.KernelIdeal.Gen Cert.Stencil
open Idealize.ShloMosaic Idealize.ShloMosaic.TcCoe Idealize.ShloMosaic.Pipeline

variable (m : (ℓ : Loc nD τ sig) → Buf (Elt Ideal) ℓ)

/-- The planes a device holds. -/
abbrev planes (c : Dev nD) : FVec Ideal Planes .f32 := m ((c.tc : Thread nD τ).loc main_arg0)

/-- Where the blocks of the six inputs lie, at a grid point. -/
theorem index_0 : ∀ t : Fin cfg0.N, win0_0.index t = ![2, t.val, 0] := (by decide +kernel : ∀ t : Fin grid0.N, _)
theorem index_1 : ∀ t : Fin cfg0.N, win0_1.index t = ![3, t.val, 0] := (by decide +kernel : ∀ t : Fin grid0.N, _)
theorem index_2 : ∀ t : Fin cfg0.N, win0_2.index t = ![4, t.val, 0] := (by decide +kernel : ∀ t : Fin grid0.N, _)
theorem index_3 : ∀ t : Fin cfg0.N, win0_3.index t = ![2, 64 * min (t.val + 1) 3, 0] := (by decide +kernel : ∀ t : Fin grid0.N, _)
theorem index_4 : ∀ t : Fin cfg0.N, win0_4.index t = ![3, 64 * min (t.val + 1) 3, 0] := (by decide +kernel : ∀ t : Fin grid0.N, _)
theorem index_5 : ∀ t : Fin cfg0.N, win0_5.index t = ![4, 64 * min (t.val + 1) 3, 0] := (by decide +kernel : ∀ t : Fin grid0.N, _)

/-- The tile of plane `2`, `3`, `4` that a grid point reads. -/
theorem tile_0 (c : Dev nD) (t : Fin cfg0.N) (r : Fin 512) (a b : Fin 2048) (hb : b.val = 512 * t.val + r.val) :
    (iblk m c 0 t : FVec Ideal S1x512x2048 .f32) (ix3 0 r a) = planes m c (ix3 2 b a) := by
  blk_simp [iblk]
  rw [V_main_arg0]
  refine congrArg (m ((c.tc : Thread nD τ).loc main_arg0)) (funext fun i => Fin.ext ?_)
  match i with
  | ⟨0, _⟩ => blk_simp [index_0 t]; rfl
  | ⟨1, _⟩ =>
    refine Eq.trans ?_ hb.symm
    blk_simp [index_0 t]
    omega
  | ⟨2, _⟩ => blk_simp [index_0 t]
theorem tile_1 (c : Dev nD) (t : Fin cfg0.N) (r : Fin 512) (a b : Fin 2048) (hb : b.val = 512 * t.val + r.val) :
    (iblk m c 1 t : FVec Ideal S1x512x2048 .f32) (ix3 0 r a) = planes m c (ix3 3 b a) := by
  blk_simp [iblk]
  rw [V_main_arg0]
  refine congrArg (m ((c.tc : Thread nD τ).loc main_arg0)) (funext fun i => Fin.ext ?_)
  match i with
  | ⟨0, _⟩ => blk_simp [index_1 t]; rfl
  | ⟨1, _⟩ =>
    refine Eq.trans ?_ hb.symm
    blk_simp [index_1 t]
    omega
  | ⟨2, _⟩ => blk_simp [index_1 t]
theorem tile_2 (c : Dev nD) (t : Fin cfg0.N) (r : Fin 512) (a b : Fin 2048) (hb : b.val = 512 * t.val + r.val) :
    (iblk m c 2 t : FVec Ideal S1x512x2048 .f32) (ix3 0 r a) = planes m c (ix3 4 b a) := by
  blk_simp [iblk]
  rw [V_main_arg0]
  refine congrArg (m ((c.tc : Thread nD τ).loc main_arg0)) (funext fun i => Fin.ext ?_)
  match i with
  | ⟨0, _⟩ => blk_simp [index_2 t]; rfl
  | ⟨1, _⟩ =>
    refine Eq.trans ?_ hb.symm
    blk_simp [index_2 t]
    omega
  | ⟨2, _⟩ => blk_simp [index_2 t]

/-- The first row of the halo block of plane `2`, `3`, `4` that a grid point reads. -/
theorem halo_0 (c : Dev nD) (t : Fin cfg0.N) (ht : t.val < 3) (a b : Fin 2048) (hb : b.val = 512 * t.val + 512) :
    top (iblk m c 3 t : FVec Ideal S1x8x2048 .f32) (ix3 0 0 a) = planes m c (ix3 2 b a) := by
  unfold top
  blk_simp [iblk]
  rw [V_main_arg0]
  refine congrArg (m ((c.tc : Thread nD τ).loc main_arg0)) (funext fun i => Fin.ext ?_)
  match i with
  | ⟨0, _⟩ => blk_simp [index_3 t]; rfl
  | ⟨1, _⟩ =>
    refine Eq.trans ?_ hb.symm
    blk_simp [index_3 t]
    omega
  | ⟨2, _⟩ => blk_simp [index_3 t]
theorem halo_1 (c : Dev nD) (t : Fin cfg0.N) (ht : t.val < 3) (a b : Fin 2048) (hb : b.val = 512 * t.val + 512) :
    top (iblk m c 4 t : FVec Ideal S1x8x2048 .f32) (ix3 0 0 a) = planes m c (ix3 3 b a) := by
  unfold top
  blk_simp [iblk]
  rw [V_main_arg0]
  refine congrArg (m ((c.tc : Thread nD τ).loc main_arg0)) (funext fun i => Fin.ext ?_)
  match i with
  | ⟨0, _⟩ => blk_simp [index_4 t]; rfl
  | ⟨1, _⟩ =>
    refine Eq.trans ?_ hb.symm
    blk_simp [index_4 t]
    omega
  | ⟨2, _⟩ => blk_simp [index_4 t]
theorem halo_2 (c : Dev nD) (t : Fin cfg0.N) (ht : t.val < 3) (a b : Fin 2048) (hb : b.val = 512 * t.val + 512) :
    top (iblk m c 5 t : FVec Ideal S1x8x2048 .f32) (ix3 0 0 a) = planes m c (ix3 4 b a) := by
  unfold top
  blk_simp [iblk]
  rw [V_main_arg0]
  refine congrArg (m ((c.tc : Thread nD τ).loc main_arg0)) (funext fun i => Fin.ext ?_)
  match i with
  | ⟨0, _⟩ => blk_simp [index_5 t]; rfl
  | ⟨1, _⟩ =>
    refine Eq.trans ?_ hb.symm
    blk_simp [index_5 t]
    omega
  | ⟨2, _⟩ => blk_simp [index_5 t]

/-- Every interior entry of planes 2, 3 and 4 is zero or one. -/
def ZeroOne (c : Dev nD) : Prop :=
  ∀ (p : Fin 5) (b a : Fin 2048), 2 ≤ p.val → Interior b.val a.val → planes m c (ix3 p b a) = 0 ∨ planes m c (ix3 p b a) = 1

variable {m}

/-- The weighted tile of point `t` at row `r`: the weights of row `512 t + r`. -/
theorem weighted_at (c : Dev nD) (h : ZeroOne m c) (t : Fin cfg0.N) (r : Fin 512) (a : Fin 2048) (b a' : ℕ)
    (hb : b = 512 * t.val + r.val) (ha : a' = a.val) :
    weighted m c t (ix2 r a) = weight (planes m c) b a' := by
  have ht : t.val < 4 := t.isLt
  subst ha
  unfold weighted
  refine (pay4_at _ (by rw [coords_val]; exact ht) _ _ _ r a).trans ?_
  rw [coords_val, ← hb]
  unfold weight
  by_cases hI : Interior b a.val
  · have hlt : b < 2048 := by have := hI.1; omega
    rw [if_pos hI, dif_pos hI, tile_0 m c t r a ⟨b, hlt⟩ hb, tile_1 m c t r a ⟨b, hlt⟩ hb, tile_2 m c t r a ⟨b, hlt⟩ hb]
    exact level_eq _ _ _ (h 2 _ _ (by decide) hI) (h 3 _ _ (by decide) hI) (h 4 _ _ (by decide) hI)
  · rw [if_neg hI, dif_neg hI]

/-- A cell outside the interior weighs nothing. -/
theorem weight_out (x : FVec Ideal Planes .f32) (b a : ℕ) (h : ¬ Interior b a) : weight x b a = 0 := by
  unfold weight
  rw [dif_neg h]

/-- The tile of point `t` at `(a, q, l)`: the policy at row `a`, column `512 t + 128 q + l`. -/
theorem tile_at (c : Dev nD) (h : ZeroOne m c) (t : Fin cfg0.N) (a : Fin 2048) (q : Fin 4) (l : Fin 128) :
    tileAt m c t (ix3 a q l) = policy (planes m c) a.val (512 * t.val + (128 * q.val + l.val)) := by
  have ht : t.val < 4 := t.isLt
  obtain ⟨r, hr⟩ : ∃ r : Fin 512, r.val = 128 * q.val + l.val := ⟨⟨128 * q.val + l.val, by omega⟩, rfl⟩
  unfold tileAt
  refine (block_at _ _ _ _ _ _ _ _ a q l r hr).trans ?_
  rw [← hr, coords_val]
  unfold policy
  have e1 : k0_pay6 (F := Ideal) (weighted m c t) (ix2 r a) = weight (planes m c) (512 * t.val + r.val) (a.val + 1) := by
    rw [pay6_at]
    by_cases ha : a.val < 2047
    · rw [dif_pos ha]
      exact weighted_at c h t r _ _ _ rfl (Nat.add_comm _ _)
    · rw [dif_neg ha, weight_out _ _ _ fun e => ha (by have := e.2; omega)]
  have e2 : k0_pay7 (F := Ideal) (BitVec.ofNat 32 t.val) k0_pay3 (weighted m c t) (top (iblk m c 3 t)) (top (iblk m c 4 t))
      (top (iblk m c 5 t)) (ix2 r a) = weight (planes m c) (512 * t.val + r.val + 1) a.val := by
    rw [pay7_at _ ht]
    by_cases hr' : r.val < 511
    · rw [dif_pos hr']
      exact weighted_at c h t _ a _ _ (by show _ = 512 * t.val + (1 + r.val); omega) rfl
    rw [dif_neg hr']
    by_cases h3 : t.val = 3
    · rw [if_pos h3, weight_out _ _ _ fun e => by have := e.1; omega]
    rw [if_neg h3]
    by_cases ha : 1 ≤ a.val ∧ a.val ≤ 2046
    · have hI : Interior (512 * t.val + r.val + 1) a.val := ⟨by omega, ha⟩
      have hlt : 512 * t.val + r.val + 1 < 2048 := by omega
      have hb : (⟨512 * t.val + r.val + 1, hlt⟩ : Fin 2048).val = 512 * t.val + 512 := by
        show 512 * t.val + r.val + 1 = _
        omega
      rw [if_pos ha, halo_0 m c t (by omega) a _ hb, halo_1 m c t (by omega) a _ hb, halo_2 m c t (by omega) a _ hb]
      unfold weight
      rw [dif_pos hI]
      exact level_eq _ _ _ (h 2 _ _ (by decide) hI) (h 3 _ _ (by decide) hI) (h 4 _ _ (by decide) hI)
    · rw [if_neg ha, weight_out _ _ _ fun e => ha e.2]
  have e3 : k0_pay8 (F := Ideal) (BitVec.ofNat 32 t.val) (weighted m c t) (carried m c t) (ix2 r a)
      = weight (planes m c) (512 * t.val + r.val - 1) a.val := by
    rw [pay8_at _ ht]
    by_cases hr' : r.val < 1
    · rw [dif_pos hr']
      by_cases h0 : t.val = 0
      · rw [if_pos h0, weight_out _ _ _ fun e => by have := e.1; omega]
      · rw [if_neg h0]
        refine (pay2_at _ a).trans ?_
        exact weighted_at c h (prev t) 511 a _ _ (by show _ = 512 * (t.val - 1) + 511; omega) rfl
    · rw [dif_neg hr']
      exact weighted_at c h t _ a _ _ (by show _ = 512 * t.val + (r.val - 1); omega) rfl
  have e4 : k0_pay9 (F := Ideal) (weighted m c t) (ix2 r a) = weight (planes m c) (512 * t.val + r.val) (a.val - 1) := by
    rw [pay9_at]
    by_cases ha : a.val < 1
    · rw [dif_pos ha, weight_out _ _ _ fun e => by have := e.2; omega]
    · rw [dif_neg ha]
      exact weighted_at c h t r _ _ _ rfl rfl
  exact congrArg₂ orElse e1 (congrArg₂ orElse e2 (congrArg₂ orElse e3 (congrArg₂ orElse e4 rfl)))

/-- The flattened result: the policy, row by row. -/
theorem result_at (c : Dev nD) (h : ZeroOne m c) :
    (shapeCast S4194304 (result m c) shapeCasts_S2048x2x8x128_S4194304 : FVec Ideal S4194304 .f32)
      = fun i => policy (planes m c) ((i 0).val / 2048) ((i 0).val % 2048) := by
  funext i
  have hn : (i 0).val < 4194304 := (i 0).isLt
  have e : (shapeCast S4194304 (result m c) shapeCasts_S2048x2x8x128_S4194304 : FVec Ideal S4194304 .f32) i
      = result m c (ix4 ⟨(i 0).val / 2048, by omega⟩ ⟨(i 0).val / 1024 % 2, by omega⟩ ⟨(i 0).val / 128 % 8, by omega⟩ ⟨(i 0).val % 128, by omega⟩
          : S2048x2x8x128.Idx) := by
    idx_vars i
    pointwise
  rw [e]
  unfold result
  refine (tile_at c h _ _ _ _).trans ?_
  refine congrArg (policy (planes m c) ((i 0).val / 2048)) ?_
  show 512 * (2 * ((i 0).val / 1024 % 2) + (i 0).val / 128 % 8 / 4) + (128 * ((i 0).val / 128 % 8 % 4) + (i 0).val % 128) = _
  omega

end Cert.KernelIdeal.Stencil

end
-- ==== Proof.Same.lean ====
module

public import proofs.«01_k».proof.Proof.Whole
public import proofs.«01_k».proof.Proof.Gen.Kernel

/-! # The kernel and its idealization are one program

No operation was rewritten, so the two programs' texts agree, and so do their meanings, over whatever the floats are. The
run shown for the idealization is the kernel's run. -/

@[expose] public section

set_option maxRecDepth 65536

noncomputable section

namespace Cert.Kernel.Stencil

open Cert.Kernel Cert.Kernel.Gen
open Idealize.ShloMosaic Idealize.ShloMosaic.TcCoe Idealize.SL.Sem

variable {F : FTy → Type} [FloatOps F]

/-- The two bodies agree. -/
theorem body_same : @Cert.Kernel.cc0__stencil_kernel F _ _ = @Cert.KernelIdeal.cc0__stencil_kernel F _ _ := rfl

/-- The two body tables agree. -/
theorem bodies_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The two tables with their pipelines agree. -/
theorem defs_same : Cert.Kernel.defs (F := F) = Cert.KernelIdeal.defs (F := F) := congrArg (Pipeline.defs pcfgs) bodies_same

/-- The two main functions agree. -/
theorem main_same : Cert.Kernel.main (F := F) = Cert.KernelIdeal.main (F := F) := rfl

/-- The kernel runs, leaves its argument as it was, and every counter ends at zero. -/
theorem quiescent (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r =>
      (∀ c : Dev nD, r.2.mem ((c.tc : Thread nD τ).loc main_arg0) = m ((c.tc : Thread nD τ).loc main_arg0)) ∧ r.2.sem = fun _ => 0) := by
  rw [defs_same, main_same]
  exact (θ_run Cert.KernelIdeal.defs _ _).mono (fun _ h => ⟨fun c => (h.1 c).2.2, h.2⟩) (Cert.KernelIdeal.Stencil.run_values m ρ)

end Cert.Kernel.Stencil

end
-- ==== Proof.Reference.lean ====
module

public import proofs.«01_k».proof.Proof.Gen.ReferenceIdeal.Run
public import proofs.«01_k».proof.Proof.Spec
public import Idealize.ShloMosaic.Lib.Pointwise
public import Idealize.ShloMosaic.Lib.Routing.OpsSet
public import Idealize.ShloMosaic.Lib.Routing.OpsOne
public import Idealize.ShloMosaic.Lib.Routing.OpsPair

/-! # What the reference computes

The mask is one exactly at the interior cells, the masked value plane holds the weights with row and column exchanged,
and the flattened result is the policy, row by row. -/

@[expose] public section

set_option maxRecDepth 16384

noncomputable section

namespace Cert.ReferenceIdeal.Stencil

open Cert.ReferenceIdeal Cert.ReferenceIdeal.Gen Cert.Stencil
open Idealize.ShloMosaic Idealize.ShloMosaic.TcCoe

/-- The corner at which the mask's block of ones is set: row 1, column 1. -/
def corner : IVec S2 32 :=
  concatenate S2 0 [⟨S1, (broadcastInDim S1 ![] bcast_S_S1 (constantI S_ 32 1#32))⟩, ⟨S1, (broadcastInDim S1 ![] bcast_S_S1 (constantI S_ 32 1#32))⟩] concatenates_S1_S1_S2_d0

/-- The mask of the interior: zeros, a block of 2046 by 2046 ones set at the corner. -/
def mask : IVec S2048x2048 1 :=
  Host.scatter scatter_S2048x2048_S2_S2046x2046_01_n_01_0 (fun _ b => b) (broadcastInDim S2048x2048 ![] bcast_S_S2048x2048 (constantI S_ 1 0#1))
    corner (broadcastInDim S2046x2046 ![] bcast_S_S2046x2046 (constantI S_ 1 1#1))

/-- The corner's two coordinates are one. -/
theorem corner_at (q : Fin 2) : corner (ix1 q) = 1#32 := by
  fin_cases q <;> rfl

/-- Where a one of the block lands. -/
theorem lands (k : S2046x2046.Idx) (r c : Fin 2048) :
    (scatter_S2048x2048_S2_S2046x2046_01_n_01_0).resultIdx? k corner = some (ix2 r c) ↔ 1 + (k 0).val = r.val ∧ 1 + (k 1).val = c.val := by
  have st : ∀ q : Fin 2, (scatter_S2048x2048_S2_S2046x2046_01_n_01_0).start k corner q = 1 := fun q =>
    (Routing.start_pair (scatter_S2048x2048_S2_S2046x2046_01_n_01_0) rfl rfl corner k q).trans (by
      rw [show corner (ValueIdx.ix1 q) = 1#32 from corner_at q]; rfl)
  have w0 : (scatter_S2048x2048_S2_S2046x2046_01_n_01_0).window k 0 = (k 0).val := by
    unfold ScatterDims.window
    rw [dif_pos (by decide)]
    rfl
  have w1 : (scatter_S2048x2048_S2_S2046x2046_01_n_01_0).window k 1 = (k 1).val := by
    unfold ScatterDims.window
    rw [dif_pos (by decide)]
    rfl
  refine (Routing.resultIdx?_ix2 (scatter_S2048x2048_S2_S2046x2046_01_n_01_0) k corner r c).trans ?_
  rw [st 0, st 1, w0, w1]
  omega

/-- The mask at a cell. -/
theorem mask_at (a b : Fin 2048) : mask (ix2 a b) = if Interior b.val a.val then 1#1 else 0#1 := by
  unfold mask
  by_cases h : Interior b.val a.val
  · rw [if_pos h]
    obtain ⟨hb, ha⟩ := h
    refine Routing.scatter_set_hit _ _ _ _ _ 1#1 (fun k _ => rfl) (ix2 ⟨a.val - 1, by omega⟩ ⟨b.val - 1, by omega⟩ : S2046x2046.Idx) ?_
    refine (lands _ a b).mpr ⟨?_, ?_⟩
    · show 1 + (a.val - 1) = a.val
      omega
    · show 1 + (b.val - 1) = b.val
      omega
  · rw [if_neg h]
    refine Routing.scatter_set_miss _ _ _ _ _ fun k hk => h ?_
    have := (lands k a b).mp hk
    have k0 : (k 0).val < 2046 := (k 0).isLt
    have k1 : (k 1).val < 2046 := (k 1).isLt
    exact ⟨by omega, by omega⟩

/-- The masked value plane. -/
def vals (x : FVec Ideal S5x2048x2048 .f32) : FVec Ideal S2048x2048 .f32 :=
  select mask
    (select (cmpf .oeq (transpose S2048x2048 [1, 0] (shapeCast S2048x2048 (extractStridedSlice S1x2048x2048 ![2, 0, 0] x slices_S5x2048x2048_S1x2048x2048_2_0_0) shapeCasts_S1x2048x2048_S2048x2048) transposes_S2048x2048_S2048x2048_1_0)
        (broadcastInDim S2048x2048 ![] bcast_S_S2048x2048 (constant S_ .f32 0x3F800000#32)))
      (broadcastInDim S2048x2048 ![] bcast_S_S2048x2048 (constant S_ .f32 0x447A0000#32))
      (select (cmpf .oeq (transpose S2048x2048 [1, 0] (shapeCast S2048x2048 (extractStridedSlice S1x2048x2048 ![3, 0, 0] x slices_S5x2048x2048_S1x2048x2048_3_0_0) shapeCasts_S1x2048x2048_S2048x2048) transposes_S2048x2048_S2048x2048_1_0)
        (broadcastInDim S2048x2048 ![] bcast_S_S2048x2048 (constant S_ .f32 0x3F800000#32)))
      (broadcastInDim S2048x2048 ![] bcast_S_S2048x2048 (constant S_ .f32 0x42C80000#32))
      (select (cmpf .oeq (transpose S2048x2048 [1, 0] (shapeCast S2048x2048 (extractStridedSlice S1x2048x2048 ![4, 0, 0] x slices_S5x2048x2048_S1x2048x2048_4_0_0) shapeCasts_S1x2048x2048_S2048x2048) transposes_S2048x2048_S2048x2048_1_0)
        (broadcastInDim S2048x2048 ![] bcast_S_S2048x2048 (constant S_ .f32 0x3F800000#32)))
      (broadcastInDim S2048x2048 ![] bcast_S_S2048x2048 (constant S_ .f32 0x41200000#32))
      (broadcastInDim S2048x2048 ![] bcast_S_S2048x2048 (constant S_ .f32 0x00000000#32)))))
    (broadcastInDim S2048x2048 ![] bcast_S_S2048x2048 (constant S_ .f32 0x00000000#32))

/-- A plane moved one row up, so that a place holds the value below it; zero where nothing comes in. -/
def below (v : FVec Ideal S2048x2048 .f32) : FVec Ideal S2048x2048 .f32 :=
  concatenate S2048x2048 0 [⟨S2047x2048, extractStridedSlice S2047x2048 ![1, 0] v slices_S2048x2048_S2047x2048_1_0⟩, ⟨S1x2048, (broadcastInDim S1x2048 ![] bcast_S_S1x2048 (constant S_ .f32 0x00000000#32))⟩]
    concatenates_S2047x2048_S1x2048_S2048x2048_d0
/-- A plane moved one column back, so that a place holds the value to its right; zero where nothing comes in. -/
def right (v : FVec Ideal S2048x2048 .f32) : FVec Ideal S2048x2048 .f32 :=
  concatenate S2048x2048 1 [⟨S2048x2047, extractStridedSlice S2048x2047 ![0, 1] v slices_S2048x2048_S2048x2047_0_1⟩, ⟨S2048x1, (broadcastInDim S2048x1 ![] bcast_S_S2048x1 (constant S_ .f32 0x00000000#32))⟩]
    concatenates_S2048x2047_S2048x1_S2048x2048_d1
/-- A plane moved one column on, so that a place holds the value to its left; zero where nothing comes in. -/
def left (v : FVec Ideal S2048x2048 .f32) : FVec Ideal S2048x2048 .f32 :=
  concatenate S2048x2048 1 [⟨S2048x1, (broadcastInDim S2048x1 ![] bcast_S_S2048x1 (constant S_ .f32 0x00000000#32))⟩, ⟨S2048x2047, extractStridedSlice S2048x2047 ![0, 0] v slices_S2048x2048_S2048x2047_0_0⟩]
    concatenates_S2048x1_S2048x2047_S2048x2048_d1
/-- A plane moved one row down, so that a place holds the value above it; zero where nothing comes in. -/
def above (v : FVec Ideal S2048x2048 .f32) : FVec Ideal S2048x2048 .f32 :=
  concatenate S2048x2048 0 [⟨S1x2048, (broadcastInDim S1x2048 ![] bcast_S_S1x2048 (constant S_ .f32 0x00000000#32))⟩, ⟨S2047x2048, extractStridedSlice S2047x2048 ![0, 0] v slices_S2048x2048_S2047x2048_0_0⟩]
    concatenates_S1x2048_S2047x2048_S2048x2048_d0

/-- `u` where it is not zero, else `v`. -/
def first (u v : FVec Ideal S2048x2048 .f32) : FVec Ideal S2048x2048 .f32 :=
  select (cmpf .une u (broadcastInDim S2048x2048 ![] bcast_S_S2048x2048 (constant S_ .f32 0x00000000#32))) u v

/-- The policy plane: the first of the four moved planes that is not zero, else the scale. -/
def plane (v : FVec Ideal S2048x2048 .f32) : FVec Ideal S2048x2048 .f32 :=
  first (below v) (first (right v) (first (left v) (first (above v)
    (broadcastInDim S2048x2048 ![] bcast_S_S2048x2048 (constant S_ .f32 0x34800000#32)))))

/-- The value plane at row `a`, column `b`: the weight of cell `(b, a)`. -/
theorem vals_at (x : FVec Ideal S5x2048x2048 .f32) (a b : Fin 2048) : vals x (ix2 a b) = weight x b.val a.val := by
  pointwise [vals]
  rw [mask_at, ten, hundred, thousand]
  unfold weight
  by_cases h : Interior b.val a.val
  · rw [if_pos h, dif_pos h]; rfl
  · rw [if_neg h, dif_neg h]; rfl

/-- The choice at a place. -/
theorem first_at (u v : FVec Ideal S2048x2048 .f32) (j : S2048x2048.Idx) : first u v j = orElse (u j) (v j) := by
  pointwise [first]
  rfl

/-- The four moved planes at a place. -/
theorem below_at (v : FVec Ideal S2048x2048 .f32) (a b : Fin 2048) :
    below v (ix2 a b) = if h : a.val < 2047 then v (ix2 ⟨1 + a.val, by omega⟩ b) else 0 := by
  pointwise [below]
theorem right_at (v : FVec Ideal S2048x2048 .f32) (a b : Fin 2048) :
    right v (ix2 a b) = if h : b.val < 2047 then v (ix2 a ⟨1 + b.val, by omega⟩) else 0 := by
  pointwise [right]
theorem left_at (v : FVec Ideal S2048x2048 .f32) (a b : Fin 2048) :
    left v (ix2 a b) = if h : b.val < 1 then 0 else v (ix2 a ⟨b.val - 1, by omega⟩) := by
  pointwise [left]
theorem above_at (v : FVec Ideal S2048x2048 .f32) (a b : Fin 2048) :
    above v (ix2 a b) = if h : a.val < 1 then 0 else v (ix2 ⟨a.val - 1, by omega⟩ b) := by
  pointwise [above]

/-- The policy plane at row `a`, column `b`. -/
theorem plane_at (x : FVec Ideal S5x2048x2048 .f32) (a b : Fin 2048) : plane (vals x) (ix2 a b) = policy x a.val b.val := by
  unfold plane policy
  rw [first_at, first_at, first_at, first_at, below_at, right_at, left_at, above_at]
  have out : ∀ b' a' : ℕ, ¬ Interior b' a' → (0 : EReal) = weight x b' a' := fun b' a' h => by
    unfold weight
    rw [dif_neg h]
  refine congrArg₂ orElse ?_ (congrArg₂ orElse ?_ (congrArg₂ orElse ?_ (congrArg₂ orElse ?_ rfl)))
  · by_cases h : a.val < 2047
    · rw [dif_pos h, vals_at]
      exact congrArg (weight x b.val) (Nat.add_comm _ _)
    · rw [dif_neg h]
      exact out _ _ fun e => by have := e.2; omega
  · by_cases h : b.val < 2047
    · rw [dif_pos h, vals_at]
      exact congrArg (weight x · a.val) (Nat.add_comm _ _)
    · rw [dif_neg h]
      exact out _ _ fun e => by have := e.1; omega
  · by_cases h : b.val < 1
    · rw [dif_pos h]
      exact out _ _ fun e => by have := e.1; omega
    · rw [dif_neg h, vals_at]
  · by_cases h : a.val < 1
    · rw [dif_pos h]
      exact out _ _ fun e => by have := e.2; omega
    · rw [dif_neg h, vals_at]

/-- The planes a device holds. -/
abbrev planes (m : (ℓ : Loc nD τ sig) → Buf (Elt Ideal) ℓ) (c : Dev nD) : FVec Ideal Planes .f32 := m ((c.tc : Thread nD τ).loc main_arg0)

/-- The reference's result is the policy plane of the value plane, flattened. -/
theorem value_eq (m : (ℓ : Loc nD τ sig) → Buf (Elt Ideal) ℓ) (c : Dev nD) :
    Value.res_main_v49 m c = shapeCast S4194304 (plane (vals (planes m c))) shapeCasts_S2048x2048_S4194304 := rfl

/-- The reference's flattened result: the policy, row by row. -/
theorem value_at (m : (ℓ : Loc nD τ sig) → Buf (Elt Ideal) ℓ) (c : Dev nD) :
    (Value.res_main_v49 m c : FVec Ideal S4194304 .f32) = fun i => policy (planes m c) ((i 0).val / 2048) ((i 0).val % 2048) := by
  rw [value_eq]
  funext i
  have hn : (i 0).val < 4194304 := (i 0).isLt
  have e : (shapeCast S4194304 (plane (vals (planes m c))) shapeCasts_S2048x2048_S4194304 : FVec Ideal S4194304 .f32) i
      = plane (vals (planes m c)) (ix2 ⟨(i 0).val / 2048, by omega⟩ ⟨(i 0).val % 2048, by omega⟩ : S2048x2048.Idx) := by
    idx_vars i
    pointwise
  exact e.trans (plane_at _ _ _)

end Cert.ReferenceIdeal.Stencil

end
-- ==== Proof.Inputs.lean ====
module

public import proofs.«01_k».proof.Proof.Gen.Pre_zero_one
public import proofs.«01_k».proof.Proof.Spec
public import Idealize.ShloMosaic.Lib.Pointwise
public import Idealize.ShloMosaic.Lib.ReduceAll

/-! # What the condition on the inputs says

The condition's result is one exactly when every interior entry of planes 2, 3 and 4 compares equal to zero or to one. -/

@[expose] public section

set_option maxRecDepth 16384

noncomputable section

namespace Cert.Pre_zero_one.Stencil

open Cert.Pre_zero_one Cert.Pre_zero_one.Gen Cert.Stencil
open Idealize.ShloMosaic

/-- A test for zero or one that came out one. -/
theorem either (v : EReal) (h : IntOp.ori (BitVec.ofBool (decide (v = 0))) (BitVec.ofBool (decide (v = 1))) = 1#1) : v = 0 ∨ v = 1 := by
  by_cases h0 : v = 0
  · exact Or.inl h0
  by_cases h1 : v = 1
  · exact Or.inr h1
  rw [decide_eq_false h0, decide_eq_false h1] at h
  exact absurd h (by decide)

/-- Under the condition every interior entry of planes 2, 3 and 4 is zero or one. -/
theorem zero_or_one (x : FVec Ideal S5x2048x2048 .f32) (h : fn (F := Ideal) x = fun _ => 1#1) (p : Fin 5) (b a : Fin 2048)
    (hp : 2 ≤ p.val) (hI : Interior b.val a.val) : x (ix3 p b a) = 0 ∨ x (ix3 p b a) = 1 := by
  obtain ⟨hb, ha⟩ := hI
  have e := congrFun h ix0
  unfold fn at e
  haveI : Subsingleton S_.Idx := ⟨fun a b => funext fun k => k.elim0⟩
  have e' := Host.reduce_andi_all _ _ _ _ _ e (ix3 ⟨p.val - 2, by omega⟩ ⟨b.val - 1, by omega⟩ ⟨a.val - 1, by omega⟩ : S3x2046x2046.Idx)
  have e0 : (⟨2 + (p.val - 2), by omega⟩ : Fin 5) = p := Fin.ext (Nat.add_sub_of_le hp)
  have e1 : (⟨1 + (b.val - 1), by omega⟩ : Fin 2048) = b := Fin.ext (Nat.add_sub_of_le hb.1)
  have e2 : (⟨1 + (a.val - 1), by omega⟩ : Fin 2048) = a := Fin.ext (Nat.add_sub_of_le ha.1)
  have at_ : (ix3 ⟨2 + (p.val - 2), by omega⟩ ⟨1 + (b.val - 1), by omega⟩ ⟨1 + (a.val - 1), by omega⟩ : S5x2048x2048.Idx) = ix3 p b a := by
    rw [e0, e1, e2]
  rw [← at_]
  revert e'
  pointwise
  exact either _

end Cert.Pre_zero_one.Stencil

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_zero_one
public import proofs.«01_k».proof.Proof.Values
public import proofs.«01_k».proof.Proof.Same
public import proofs.«01_k».proof.Proof.Reference
public import proofs.«01_k».proof.Proof.Inputs
public import Idealize.ShloMosaic.Adequacy
public import Idealize.ShloMosaic.Init

/-! # The certificate

The kernel and its idealization run and leave their argument as it was; so does the reference; and over the extended
reals the two programs' results are equal for every input the condition admits: both results are the numbers
`Cert.Stencil.policy`, row by row, and one integer zero. -/

@[expose] public section

noncomputable section

namespace Cert.Proof

open Idealize.ShloMosaic Idealize.SL.Sem

/-- The idealized kernel runs and leaves its argument as it was. -/
theorem kernel_quiescent (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2.2, h.2⟩) (Cert.KernelIdeal.Stencil.run_values m ρ)

/-- The reference runs and leaves its argument as it was. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2.2, sem_eq_zero_of_no_sems (by decide) r.2⟩)
    (Cert.ReferenceIdeal.Value.run m ρ)

/-- The two results are equal: the integer zero, and the policy. -/
theorem equal : Cert.algebraic_KernelIdeal_ReferenceIdeal_pre_zero_one := by
  intro m g m' g' hpre hx
  have hz : ∀ c, Cert.KernelIdeal.Stencil.ZeroOne m c := fun c => Cert.Pre_zero_one.Stencil.zero_or_one _ (hpre c)
  refine ⟨fun _ => constantI Cert.KernelIdeal.S1 32 0#32,
    fun c i => Cert.Stencil.policy (Cert.KernelIdeal.Stencil.planes m c) ((i 0).val / 2048) ((i 0).val % 2048), ?_, ?_⟩
  · refine (θ_run Cert.KernelIdeal.defs _ _).mono (fun r h c => ?_) (Cert.KernelIdeal.Stencil.run_values m g)
    obtain ⟨h0, h1, h2⟩ := h.1 c
    exact ⟨h0, h1.trans (Cert.KernelIdeal.Stencil.result_at c (hz c)), h2⟩
  · refine (θ_run Cert.ReferenceIdeal.defs _ _).mono (fun r h c => ?_) (Cert.ReferenceIdeal.Value.run m' g')
    obtain ⟨h0, h1, h2⟩ := h c
    refine ⟨h0, h1.trans ((Cert.ReferenceIdeal.Stencil.value_at m' c).trans ?_), h2⟩
    have e : Cert.ReferenceIdeal.Stencil.planes m' c = Cert.KernelIdeal.Stencil.planes m c := hx c
    rw [e]
    rfl

theorem claim : Cert.Claim := ⟨Cert.Kernel.Gen.facts, Cert.KernelIdeal.Gen.facts, Cert.ReferenceIdeal.Gen.facts, Cert.Pre_zero_one.Gen.facts,
  fun m ρ _ => Cert.Kernel.Stencil.quiescent m ρ, fun m ρ _ => kernel_quiescent m ρ, fun m ρ _ => kernel_quiescent m ρ,
  fun m ρ _ => reference_quiescent m ρ, fun m ρ _ => reference_quiescent m ρ, trivial, equal⟩

end Cert.Proof

end
